-- ==== Defs.lean ====
def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite_queries_keys [hPre_finite_queries_keys : Cert.Pre_finite_queries_keys.Facts] (m : (ℓ : Loc Cert.XattnIdeal.nD Cert.XattnIdeal.τ Cert.XattnIdeal.sig) → Buf (Elt Ideal) ℓ) : Prop :=
  ∀ c : Dev Cert.XattnIdeal.nD,
    (Cert.Pre_finite_queries_keys.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1))) = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_finite_queries_keys [hPre_finite_queries_keys : Cert.Pre_finite_queries_keys.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_finite_queries_keys.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1))) = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mkv (m : (ℓ : Loc Cert.Mkv.nD Cert.Mkv.τ Cert.Mkv.sig) → Buf (Elt Bits) ℓ) : Prop :=
  True

def Pre_MkvIdeal (m : (ℓ : Loc Cert.MkvIdeal.nD Cert.MkvIdeal.τ Cert.MkvIdeal.sig) → Buf (Elt Ideal) ℓ) : Prop :=
  True

def Pre_MkvRefIdeal (m : (ℓ : Loc Cert.MkvRefIdeal.nD Cert.MkvRefIdeal.τ Cert.MkvRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1))
      ∧ r.2.sem = fun _ => 0)

def quiescent_XattnIdeal_pre_finite_queries_keys [hXattnIdeal : Cert.XattnIdeal.Facts] [hPre_finite_queries_keys : Cert.Pre_finite_queries_keys.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite_queries_keys m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1))
      ∧ r.2.sem = fun _ => 0)

def quiescent_XattnRefIdeal_pre_finite_queries_keys [hXattnRefIdeal : Cert.XattnRefIdeal.Facts] [hPre_finite_queries_keys : Cert.Pre_finite_queries_keys.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_finite_queries_keys m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Mkv [hMkv : Cert.Mkv.Facts] : Prop :=
  ∀ (m : (ℓ : Loc Cert.Mkv.nD Cert.Mkv.τ Cert.Mkv.sig) → Buf (Elt Bits) ℓ) (g : Dev Cert.Mkv.nD → PrngReg), Pre_Mkv m →
    θ_run (Cert.Mkv.defs (F := Bits)) (onTc (τ := Cert.Mkv.τ) (Cert.Mkv.main (F := Bits))) ⟨m, fun _ => 0, g⟩ (fun r => (∀ c : Dev Cert.Mkv.nD,
      r.2.mem ((c.tc : Thread Cert.Mkv.nD Cert.Mkv.τ).loc Cert.Mkv.main_arg0) = m ((c.tc : Thread Cert.Mkv.nD Cert.Mkv.τ).loc Cert.Mkv.main_arg0)
      ∧ r.2.mem ((c.tc : Thread Cert.Mkv.nD Cert.Mkv.τ).loc Cert.Mkv.main_arg1) = m ((c.tc : Thread Cert.Mkv.nD Cert.Mkv.τ).loc Cert.Mkv.main_arg1))
      ∧ r.2.sem = fun _ => 0)

def quiescent_MkvIdeal [hMkvIdeal : Cert.MkvIdeal.Facts] : Prop :=
  ∀ (m : (ℓ : Loc Cert.MkvIdeal.nD Cert.MkvIdeal.τ Cert.MkvIdeal.sig) → Buf (Elt Ideal) ℓ) (g : Dev Cert.MkvIdeal.nD → PrngReg), Pre_MkvIdeal m →
    θ_run (Cert.MkvIdeal.defs (F := Ideal)) (onTc (τ := Cert.MkvIdeal.τ) (Cert.MkvIdeal.main (F := Ideal))) ⟨m, fun _ => 0, g⟩ (fun r => (∀ c : Dev Cert.MkvIdeal.nD,
      r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
      ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1))
      ∧ r.2.sem = fun _ => 0)

def quiescent_MkvRefIdeal [hMkvRefIdeal : Cert.MkvRefIdeal.Facts] : Prop :=
  ∀ (m : (ℓ : Loc Cert.MkvRefIdeal.nD Cert.MkvRefIdeal.τ Cert.MkvRefIdeal.sig) → Buf (Elt Ideal) ℓ) (g : Dev Cert.MkvRefIdeal.nD → PrngReg), Pre_MkvRefIdeal m →
    θ_run (Cert.MkvRefIdeal.defs (F := Ideal)) (onTc (τ := Cert.MkvRefIdeal.τ) (Cert.MkvRefIdeal.main (F := Ideal))) ⟨m, fun _ => 0, g⟩ (fun r => (∀ c : Dev Cert.MkvRefIdeal.nD,
      r.2.mem ((c.tc : Thread Cert.MkvRefIdeal.nD Cert.MkvRefIdeal.τ).loc Cert.MkvRefIdeal.main_arg0) = m ((c.tc : Thread Cert.MkvRefIdeal.nD Cert.MkvRefIdeal.τ).loc Cert.MkvRefIdeal.main_arg0)
      ∧ r.2.mem ((c.tc : Thread Cert.MkvRefIdeal.nD Cert.MkvRefIdeal.τ).loc Cert.MkvRefIdeal.main_arg1) = m ((c.tc : Thread Cert.MkvRefIdeal.nD Cert.MkvRefIdeal.τ).loc Cert.MkvRefIdeal.main_arg1))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10))
      ∧ r.2.sem = fun _ => 0)

def preserves_Dil_DilIdeal : Prop :=
  True

def preserves_Xattn_XattnIdeal : Prop :=
  True

def algebraic_XattnIdeal_XattnRefIdeal_pre_finite_queries_keys [hXattnIdeal : Cert.XattnIdeal.Facts] [hXattnRefIdeal : Cert.XattnRefIdeal.Facts] [hPre_finite_queries_keys : Cert.Pre_finite_queries_keys.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_finite_queries_keys m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)) →
    ∃ (v0 : (c : Dev Cert.XattnIdeal.nD) → Buf (Elt Ideal) ((c.tc : Thread Cert.XattnIdeal.nD Cert.XattnIdeal.τ).loc Cert.XattnIdeal.main_v0)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v0) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v27) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1))

def preserves_Sgu_SguIdeal : Prop :=
  IdealRules.named_const.Statement Cert.SguIdeal.κ "gelu_c2" .f32 0x3D122279#32 (((6693141 / 8388608) * (12003091 / 268435456) : ℝ) : EReal)

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)) →
    ∃ (v0 : (c : Dev Cert.SguIdeal.nD) → Buf (Elt Ideal) ((c.tc : Thread Cert.SguIdeal.nD Cert.SguIdeal.τ).loc Cert.SguIdeal.main_v6_0)) (v1 : (c : Dev Cert.SguIdeal.nD) → Buf (Elt Ideal) ((c.tc : Thread Cert.SguIdeal.nD Cert.SguIdeal.τ).loc Cert.SguIdeal.main_v6_1)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v6_0) = v0 c
          ∧ r.2.mem ((c.tc : Thread Cert.SguIdeal.nD Cert.SguIdeal.τ).loc Cert.SguIdeal.main_v6_1) = v1 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v70) = v0 c
          ∧ r.2.mem ((c.tc : Thread Cert.SguRefIdeal.nD Cert.SguRefIdeal.τ).loc Cert.SguRefIdeal.main_v73) = v1 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Mkv_MkvIdeal : Prop :=
  True

def algebraic_MkvIdeal_MkvRefIdeal [hMkvIdeal : Cert.MkvIdeal.Facts] [hMkvRefIdeal : Cert.MkvRefIdeal.Facts] : Prop :=
  ∀ (m : (ℓ : Loc Cert.MkvIdeal.nD Cert.MkvIdeal.τ Cert.MkvIdeal.sig) → Buf (Elt Ideal) ℓ) (g : Dev Cert.MkvIdeal.nD → PrngReg)
    (m' : (ℓ : Loc Cert.MkvRefIdeal.nD Cert.MkvRefIdeal.τ Cert.MkvRefIdeal.sig) → Buf (Elt Ideal) ℓ) (g' : Dev Cert.MkvRefIdeal.nD → PrngReg), Pre_MkvIdeal m →
    (∀ c : Dev Cert.MkvIdeal.nD,
      m' ((c.tc : Thread Cert.MkvRefIdeal.nD Cert.MkvRefIdeal.τ).loc Cert.MkvRefIdeal.main_arg0) = m ((c.tc : Thread Cert.MkvIdeal.nD Cert.MkvIdeal.τ).loc Cert.MkvIdeal.main_arg0)
      ∧ m' ((c.tc : Thread Cert.MkvRefIdeal.nD Cert.MkvRefIdeal.τ).loc Cert.MkvRefIdeal.main_arg1) = m ((c.tc : Thread Cert.MkvIdeal.nD Cert.MkvIdeal.τ).loc Cert.MkvIdeal.main_arg1)) →
    ∃ (v0 : (c : Dev Cert.MkvIdeal.nD) → Buf (Elt Ideal) ((c.tc : Thread Cert.MkvIdeal.nD Cert.MkvIdeal.τ).loc Cert.MkvIdeal.main_v1)),
      θ_run (Cert.MkvIdeal.defs (F := Ideal)) (onTc (τ := Cert.MkvIdeal.τ) (Cert.MkvIdeal.main (F := Ideal))) ⟨m, fun _ => 0, g⟩ (fun r => ∀ c : Dev Cert.MkvIdeal.nD,
          r.2.mem ((c.tc : Thread Cert.MkvIdeal.nD Cert.MkvIdeal.τ).loc Cert.MkvIdeal.main_v1) = v0 c
          ∧ r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
          ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1))
      ∧ θ_run (Cert.MkvRefIdeal.defs (F := Ideal)) (onTc (τ := Cert.MkvRefIdeal.τ) (Cert.MkvRefIdeal.main (F := Ideal))) ⟨m', fun _ => 0, g'⟩ (fun r => ∀ c : Dev Cert.MkvRefIdeal.nD,
          r.2.mem ((c.tc : Thread Cert.MkvRefIdeal.nD Cert.MkvRefIdeal.τ).loc Cert.MkvRefIdeal.main_v1) = v0 c
          ∧ r.2.mem ((c.tc : Thread Cert.MkvRefIdeal.nD Cert.MkvRefIdeal.τ).loc Cert.MkvRefIdeal.main_arg0) = m' ((c.tc : Thread Cert.MkvRefIdeal.nD Cert.MkvRefIdeal.τ).loc Cert.MkvRefIdeal.main_arg0)
          ∧ r.2.mem ((c.tc : Thread Cert.MkvRefIdeal.nD Cert.MkvRefIdeal.τ).loc Cert.MkvRefIdeal.main_arg1) = m' ((c.tc : Thread Cert.MkvRefIdeal.nD Cert.MkvRefIdeal.τ).loc Cert.MkvRefIdeal.main_arg1))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v8)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v8) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v66) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10))

def Claim : Prop :=
  ∃ (hDil : Cert.Dil.Facts) (hDilIdeal : Cert.DilIdeal.Facts) (hXattn : Cert.Xattn.Facts) (hXattnIdeal : Cert.XattnIdeal.Facts) (hXattnRefIdeal : Cert.XattnRefIdeal.Facts) (hSgu : Cert.Sgu.Facts) (hSguIdeal : Cert.SguIdeal.Facts) (hSguRefIdeal : Cert.SguRefIdeal.Facts) (hProj : Cert.Proj.Facts) (hProjIdeal : Cert.ProjIdeal.Facts) (hProjRefIdeal : Cert.ProjRefIdeal.Facts) (hMkv : Cert.Mkv.Facts) (hMkvIdeal : Cert.MkvIdeal.Facts) (hMkvRefIdeal : Cert.MkvRefIdeal.Facts) (hTail : Cert.Tail.Facts) (hTailIdeal : Cert.TailIdeal.Facts) (hTailRefIdeal : Cert.TailRefIdeal.Facts) (hPre_finite_queries_keys : Cert.Pre_finite_queries_keys.Facts),
    quiescent_Dil (hDil := hDil)
    ∧ quiescent_DilIdeal (hDilIdeal := hDilIdeal)
    ∧ quiescent_Xattn (hXattn := hXattn)
    ∧ quiescent_XattnIdeal (hXattnIdeal := hXattnIdeal)
    ∧ quiescent_XattnIdeal_pre_finite_queries_keys (hXattnIdeal := hXattnIdeal) (hPre_finite_queries_keys := hPre_finite_queries_keys)
    ∧ quiescent_XattnRefIdeal (hXattnRefIdeal := hXattnRefIdeal)
    ∧ quiescent_XattnRefIdeal_pre_finite_queries_keys (hXattnRefIdeal := hXattnRefIdeal) (hPre_finite_queries_keys := hPre_finite_queries_keys)
    ∧ quiescent_Sgu (hSgu := hSgu)
    ∧ quiescent_SguIdeal (hSguIdeal := hSguIdeal)
    ∧ quiescent_SguRefIdeal (hSguRefIdeal := hSguRefIdeal)
    ∧ quiescent_Proj (hProj := hProj)
    ∧ quiescent_ProjIdeal (hProjIdeal := hProjIdeal)
    ∧ quiescent_ProjRefIdeal (hProjRefIdeal := hProjRefIdeal)
    ∧ quiescent_Mkv (hMkv := hMkv)
    ∧ quiescent_MkvIdeal (hMkvIdeal := hMkvIdeal)
    ∧ quiescent_MkvRefIdeal (hMkvRefIdeal := hMkvRefIdeal)
    ∧ quiescent_Tail (hTail := hTail)
    ∧ quiescent_TailIdeal (hTailIdeal := hTailIdeal)
    ∧ quiescent_TailRefIdeal (hTailRefIdeal := hTailRefIdeal)
    ∧ preserves_Dil_DilIdeal
    ∧ preserves_Xattn_XattnIdeal
    ∧ algebraic_XattnIdeal_XattnRefIdeal_pre_finite_queries_keys (hXattnIdeal := hXattnIdeal) (hXattnRefIdeal := hXattnRefIdeal) (hPre_finite_queries_keys := hPre_finite_queries_keys)
    ∧ preserves_Sgu_SguIdeal
    ∧ algebraic_SguIdeal_SguRefIdeal (hSguIdeal := hSguIdeal) (hSguRefIdeal := hSguRefIdeal)
    ∧ preserves_Proj_ProjIdeal
    ∧ algebraic_ProjIdeal_ProjRefIdeal (hProjIdeal := hProjIdeal) (hProjRefIdeal := hProjRefIdeal)
    ∧ preserves_Mkv_MkvIdeal
    ∧ algebraic_MkvIdeal_MkvRefIdeal (hMkvIdeal := hMkvIdeal) (hMkvRefIdeal := hMkvRefIdeal)
    ∧ preserves_Tail_TailIdeal
    ∧ algebraic_TailIdeal_TailRefIdeal (hTailIdeal := hTailIdeal) (hTailRefIdeal := hTailRefIdeal)
-- ==== Pre_finite_queries_keys.lean ====
abbrev S20x32x2048x128 : Shape := ⟨4, ![20, 32, 2048, 128]⟩
abbrev S32x256x512 : Shape := ⟨3, ![32, 256, 512]⟩
abbrev S2x32x2048x128 : Shape := ⟨4, ![2, 32, 2048, 128]⟩
abbrev S_ : Shape := ⟨0, ![]⟩
abbrev S32x256x256 : Shape := ⟨3, ![32, 256, 256]⟩

class Facts : Prop where
  slices_S20x32x2048x128_S2x32x2048x128_18_0_0_0 : S20x32x2048x128.Slices ![18, 0, 0, 0] S2x32x2048x128
  bitsLt_bf16_f32 : FTy.bits .bf16 < FTy.bits .f32
  bcast_S_S2x32x2048x128 : S_.BroadcastsInDim S2x32x2048x128 (![] : Fin 0 → Fin S2x32x2048x128.rank)
  reducesTo_S2x32x2048x128_S_d0_1_2_3 : S2x32x2048x128.ReducesTo [0, 1, 2, 3] S_
  h_S_ : 0 < S_.numel
  slices_S32x256x512_S32x256x256_0_0_0 : S32x256x512.Slices ![0, 0, 0] S32x256x256
  bcast_S_S32x256x256 : S_.BroadcastsInDim S32x256x256 (![] : Fin 0 → Fin S32x256x256.rank)
  reducesTo_S32x256x256_S_d0_1_2 : S32x256x256.ReducesTo [0, 1, 2] S_

variable [Facts]

def fn {F : FTy → Type} [FloatOps F] (main_arg0 : FVec F S20x32x2048x128 .bf16) (main_arg1 : FVec F S32x256x512 .bf16) : IVec S_ 1 :=
  let main_v0 : FVec F S2x32x2048x128 .bf16 := (extractStridedSlice S2x32x2048x128 ![18, 0, 0, 0] · slices_S20x32x2048x128_S2x32x2048x128_18_0_0_0) main_arg0
  let main_v1 : FVec F S2x32x2048x128 .f32 := (extf .f32 · bitsLt_bf16_f32) main_v0
  let main_v2 : FVec F S2x32x2048x128 .f32 := Host.absf main_v1
  let main_cst : FVec F S_ .f32 := constant S_ .f32 0x7F800000#32
  let main_v3 : FVec F S2x32x2048x128 .f32 := broadcastInDim S2x32x2048x128 ![] bcast_S_S2x32x2048x128 main_cst
  let main_v4 : IVec S2x32x2048x128 1 := cmpf .olt main_v2 main_v3
  let main_c : IVec S_ 1 := constantI S_ 1 1#1
  let main_v5 : IVec S_ 1 := (fun x v => Host.reduce IntOp.andi x v reducesTo_S2x32x2048x128_S_d0_1_2_3 h_S_) main_v4 main_c
  let main_v6 : FVec F S32x256x256 .bf16 := (extractStridedSlice S32x256x256 ![0, 0, 0] · slices_S32x256x512_S32x256x256_0_0_0) main_arg1
  let main_v7 : FVec F S32x256x256 .f32 := (extf .f32 · bitsLt_bf16_f32) main_v6
  let main_v8 : FVec F S32x256x256 .f32 := Host.absf main_v7
  let main_cst_0 : FVec F S_ .f32 := constant S_ .f32 0x7F800000#32
  let main_v9 : FVec F S32x256x256 .f32 := broadcastInDim S32x256x256 ![] bcast_S_S32x256x256 main_cst_0
  let main_v10 : IVec S32x256x256 1 := cmpf .olt main_v8 main_v9
  let main_c_1 : IVec S_ 1 := constantI S_ 1 1#1
  let main_v11 : IVec S_ 1 := (fun x v => Host.reduce IntOp.andi x v reducesTo_S32x256x256_S_d0_1_2 h_S_) main_v10 main_c_1
  let main_v12 : IVec S_ 1 := andi main_v5 main_v11
  main_v12
-- ==== Dil.lean ====
abbrev S20x32x2048x128 : Shape := ⟨4, ![20, 32, 2048, 128]⟩
abbrev S6x32x2048x128 : Shape := ⟨4, ![6, 32, 2048, 128]⟩
abbrev S6x1x2048x128 : Shape := ⟨4, ![6, 1, 2048, 128]⟩
abbrev S6x2048x128 : Shape := ⟨3, ![6, 2048, 128]⟩
abbrev S2x2048x128 : Shape := ⟨3, ![2, 2048, 128]⟩
abbrev S2048x128 : Shape := ⟨2, ![2048, 128]⟩
abbrev S256x256 : Shape := ⟨2, ![256, 256]⟩
abbrev S9x2048x128 : Shape := ⟨3, ![9, 2048, 128]⟩
abbrev S3x2048x128 : Shape := ⟨3, ![3, 2048, 128]⟩
abbrev S128x128 : Shape := ⟨2, ![128, 128]⟩
abbrev S1x1x2048x128 : Shape := ⟨4, ![1, 1, 2048, 128]⟩
abbrev S1x2048x128 : Shape := ⟨3, ![1, 2048, 128]⟩
abbrev S2x128x128 : Shape := ⟨3, ![2, 128, 128]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S128x1 : Shape := ⟨2, ![128, 1]⟩
abbrev S1x128x128 : Shape := ⟨3, ![1, 128, 128]⟩
abbrev S512x128 : Shape := ⟨2, ![512, 128]⟩
abbrev S1x512x128 : Shape := ⟨3, ![1, 512, 128]⟩
abbrev S1x256x128 : Shape := ⟨3, ![1, 256, 128]⟩
abbrev S1x1x256x128 : Shape := ⟨4, ![1, 1, 256, 128]⟩

abbrev nBuf : Space → Nat
  | .hbm => 2
  | .vmem => 15
  | .smem => 0
  | _ => 0

abbrev bufTy : (tb : Table) → Fin (tcTables nBuf tb) → BufTy
  | .hbm, ⟨0, _⟩ => ⟨S20x32x2048x128, .bf16⟩
  | .hbm, ⟨1, _⟩ => ⟨S6x32x2048x128, .bf16⟩
  | .local _ .vmem, ⟨0, _⟩ => ⟨S6x1x2048x128, .bf16⟩
  | .local _ .vmem, ⟨1, _⟩ => ⟨S6x1x2048x128, .bf16⟩
  | .local _ .vmem, ⟨2, _⟩ => ⟨S6x1x2048x128, .bf16⟩
  | .local _ .vmem, ⟨3, _⟩ => ⟨S6x1x2048x128, .bf16⟩
  | .local _ .vmem, ⟨4, _⟩ => ⟨S6x1x2048x128, .bf16⟩
  | .local _ .vmem, ⟨5, _⟩ => ⟨S6x1x2048x128, .bf16⟩
  | .local _ .vmem, ⟨6, _⟩ => ⟨S6x1x2048x128, .bf16⟩
  | .local _ .vmem, ⟨7, _⟩ => ⟨S6x1x2048x128, .bf16⟩
  | .local _ .vmem, ⟨8, _⟩ => ⟨S6x2048x128, .f32⟩
  | .local _ .vmem, ⟨9, _⟩ => ⟨S2x2048x128, .bf16⟩
  | .local _ .vmem, ⟨10, _⟩ => ⟨S2048x128, .bf16⟩
  | .local _ .vmem, ⟨11, _⟩ => ⟨S2048x128, .bf16⟩
  | .local _ .vmem, ⟨12, _⟩ => ⟨S256x256, .f32⟩
  | .local _ .vmem, ⟨13, _⟩ => ⟨S9x2048x128, .f32⟩
  | .local _ .vmem, ⟨14, _⟩ => ⟨S3x2048x128, .f32⟩
  | _, _ => ⟨S20x32x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c6_i32 : BitVec 32 := 6#32
  let v0 : BitVec 32 := Scalar.addi c0_i32 c6_i32
  let c1_i32 : BitVec 32 := 1#32
  ⟨c0_i32, v0, c1_i32⟩
def k0_off1 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4 : Index := Scalar.indexCast arg12
  let c0 : Index := 0#32
  let c0_1 : Index := 0#32
  let c0_2 : Index := 0#32
  ![v4.toNat, 0, 0, 0]
def k0_off2 (k0_t1 : Fin k0_t1_loop.trips) : Fin 4 → Nat :=
  let c0_i32 : BitVec 32 := 0#32
  let c1_i32 : BitVec 32 := 1#32
  let arg12 : BitVec 32 := Scf.iv c0_i32 c1_i32 k0_t1
  let c0_i32_45 : BitVec 32 := 0#32
  let c0_i32_46 : BitVec 32 := 0#32
  let c0_i32_47 : BitVec 32 := 0#32
  ![arg12.toNat, 0, 0, 0]
def k0_off3 (c0_i32_1348 : BitVec 32) (c0_i32_1351 : BitVec 32) : Fin 3 → Nat :=
  let c0_1353 : Index := 0#32
  let c4_i32_1349 : BitVec 32 := 4#32
  let v2090 : BitVec 32 := Scalar.remsi c0_i32_1348 c4_i32_1349
  let c512_i32 : BitVec 32 := 512#32
  let v2091 : BitVec 32 := Scalar.muli v2090 c512_i32
  let c0_i32_1350 : BitVec 32 := 0#32
  let v2092 : BitVec 32 := Scalar.addi v2091 c0_i32_1350
  let c4_i32_1352 : BitVec 32 := 4#32
  let v2093 : BitVec 32 := Scalar.divsi c0_i32_1351 c4_i32_1352
  let v2094 : BitVec 32 := Scalar.addi v2092 v2093
  let v2108 : Index := Scalar.indexCast v2094
  let c0_1354 : Index := 0#32
  ![0, v2108.toNat, 0]
def k0_off3_at (r : Fin 16) : BitVec 32 × BitVec 32 :=
  if r.val < 8 then
    if r.val < 4 then
      if r.val < 2 then
        if r.val < 1 then
          (0#32, 0#32)
        else
          (1#32, 1#32)
      else
        if r.val < 3 then
          (2#32, 2#32)
        else
          (3#32, 3#32)
    else
      if r.val < 6 then
        if r.val < 5 then
          (4#32, 4#32)
        else
          (5#32, 5#32)
      else
        if r.val < 7 then
          (6#32, 6#32)
        else
          (7#32, 7#32)
  else
    if r.val < 12 then
      if r.val < 10 then
        if r.val < 9 then
          (8#32, 8#32)
        else
          (9#32, 9#32)
      else
        if r.val < 11 then
          (10#32, 10#32)
        else
          (11#32, 11#32)
    else
      if r.val < 14 then
        if r.val < 13 then
          (12#32, 12#32)
        else
          (13#32, 13#32)
      else
        if r.val < 15 then
          (14#32, 14#32)
        else
          (15#32, 15#32)
def k0_off4 (c0_i32_1348 : BitVec 32) (c0_i32_1351 : BitVec 32) : Fin 3 → Nat :=
  let c1_1355 : Index := 1#32
  let c4_i32_1349 : BitVec 32 := 4#32
  let v2090 : BitVec 32 := Scalar.remsi c0_i32_1348 c4_i32_1349
  let c512_i32 : BitVec 32 := 512#32
  let v2091 : BitVec 32 := Scalar.muli v2090 c512_i32
  let c0_i32_1350 : BitVec 32 := 0#32
  let v2092 : BitVec 32 := Scalar.addi v2091 c0_i32_1350
  let c4_i32_1352 : BitVec 32 := 4#32
  let v2093 : BitVec 32 := Scalar.divsi c0_i32_1351 c4_i32_1352
  let v2094 : BitVec 32 := Scalar.addi v2092 v2093
  let v2112 : Index := Scalar.indexCast v2094
  let c0_1356 : Index := 0#32
  ![1, v2112.toNat, 0]
def k0_off4_at (r : Fin 16) : BitVec 32 × BitVec 32 :=
  if r.val < 8 then
    if r.val < 4 then
      if r.val < 2 then
        if r.val < 1 then
          (0#32, 0#32)
        else
          (1#32, 1#32)
      else
        if r.val < 3 then
          (2#32, 2#32)
        else
          (3#32, 3#32)
    else
      if r.val < 6 then
        if r.val < 5 then
          (4#32, 4#32)
        else
          (5#32, 5#32)
      else
        if r.val < 7 then
          (6#32, 6#32)
        else
          (7#32, 7#32)
  else
    if r.val < 12 then
      if r.val < 10 then
        if r.val < 9 then
          (8#32, 8#32)
        else
          (9#32, 9#32)
      else
        if r.val < 11 then
          (10#32, 10#32)
        else
          (11#32, 11#32)
    else
      if r.val < 14 then
        if r.val < 13 then
          (12#32, 12#32)
        else
          (13#32, 13#32)
      else
        if r.val < 15 then
          (14#32, 14#32)
        else
          (15#32, 15#32)
def k0_off5 (c0_i32_1348 : BitVec 32) (c0_i32_1351 : BitVec 32) : Fin 3 → Nat :=
  let c2_1357 : Index := 2#32
  let c4_i32_1349 : BitVec 32 := 4#32
  let v2090 : BitVec 32 := Scalar.remsi c0_i32_1348 c4_i32_1349
  let c512_i32 : BitVec 32 := 512#32
  let v2091 : BitVec 32 := Scalar.muli v2090 c512_i32
  let c0_i32_1350 : BitVec 32 := 0#32
  let v2092 : BitVec 32 := Scalar.addi v2091 c0_i32_1350
  let c4_i32_1352 : BitVec 32 := 4#32
  let v2093 : BitVec 32 := Scalar.divsi c0_i32_1351 c4_i32_1352
  let v2094 : BitVec 32 := Scalar.addi v2092 v2093
  let v2116 : Index := Scalar.indexCast v2094
  let c0_1358 : Index := 0#32
  ![2, v2116.toNat, 0]
def k0_off5_at (r : Fin 16) : BitVec 32 × BitVec 32 :=
  if r.val < 8 then
    if r.val < 4 then
      if r.val < 2 then
        if r.val < 1 then
          (0#32, 0#32)
        else
          (1#32, 1#32)
      else
        if r.val < 3 then
          (2#32, 2#32)
        else
          (3#32, 3#32)
    else
      if r.val < 6 then
        if r.val < 5 then
          (4#32, 4#32)
        else
          (5#32, 5#32)
      else
        if r.val < 7 then
          (6#32, 6#32)
        else
          (7#32, 7#32)
  else
    if r.val < 12 then
      if r.val < 10 then
        if r.val < 9 then
          (8#32, 8#32)
        else
          (9#32, 9#32)
      else
        if r.val < 11 then
          (10#32, 10#32)
        else
          (11#32, 11#32)
    else
      if r.val < 14 then
        if r.val < 13 then
          (12#32, 12#32)
        else
          (13#32, 13#32)
      else
        if r.val < 15 then
          (14#32, 14#32)
        else
          (15#32, 15#32)
@[reducible] def k0_t2_loop : Scf.Loop 32 :=
  let c0_i32_1742 : BitVec 32 := 0#32
  let c8_i32_1743 : BitVec 32 := 8#32
  let v2848 : BitVec 32 := Scalar.addi c0_i32_1742 c8_i32_1743
  let c1_i32_1744 : BitVec 32 := 1#32
  ⟨c0_i32_1742, v2848, c1_i32_1744⟩
def k0_mult1 (k0_t2 : Fin k0_t2_loop.trips) : BitVec 32 :=
  let c0_i32_1742 : BitVec 32 := 0#32
  let c1_i32_1744 : BitVec 32 := 1#32
  let arg13 : BitVec 32 := Scf.iv c0_i32_1742 c1_i32_1744 k0_t2
  let c256_i32 : BitVec 32 := 256#32
  let v2849 : BitVec 32 := Scalar.muli arg13 c256_i32
  v2849
def k0_off6 (k0_t2 : Fin k0_t2_loop.trips) : Fin 3 → Nat :=
  let c1_1746 : Index := 1#32
  let c0_i32_1742 : BitVec 32 := 0#32
  let c1_i32_1744 : BitVec 32 := 1#32
  let arg13 : BitVec 32 := Scf.iv c0_i32_1742 c1_i32_1744 k0_t2
  let c256_i32 : BitVec 32 := 256#32
  let v2849 : BitVec 32 := Scalar.muli arg13 c256_i32
  let v2850 : BitVec 32 := v2849
  let v2851 : Index := Scalar.indexCast v2850
  let c0_1747 : Index := 0#32
  ![1, v2851.toNat, 0]
def k0_off7 (k0_t2 : Fin k0_t2_loop.trips) : Fin 3 → Nat :=
  let c4_1748 : Index := 4#32
  let c0_i32_1742 : BitVec 32 := 0#32
  let c1_i32_1744 : BitVec 32 := 1#32
  let arg13 : BitVec 32 := Scf.iv c0_i32_1742 c1_i32_1744 k0_t2
  let c256_i32 : BitVec 32 := 256#32
  let v2849 : BitVec 32 := Scalar.muli arg13 c256_i32
  let v2850 : BitVec 32 := v2849
  let v2854 : Index := Scalar.indexCast v2850
  let c0_1749 : Index := 0#32
  ![4, v2854.toNat, 0]
def k0_off8 (k0_t2 : Fin k0_t2_loop.trips) : Fin 3 → Nat :=
  let c7_1750 : Index := 7#32
  let c0_i32_1742 : BitVec 32 := 0#32
  let c1_i32_1744 : BitVec 32 := 1#32
  let arg13 : BitVec 32 := Scf.iv c0_i32_1742 c1_i32_1744 k0_t2
  let c256_i32 : BitVec 32 := 256#32
  let v2849 : BitVec 32 := Scalar.muli arg13 c256_i32
  let v2850 : BitVec 32 := v2849
  let v2857 : Index := Scalar.indexCast v2850
  let c0_1751 : Index := 0#32
  ![7, v2857.toNat, 0]
def k0_off9 (k0_t2 : Fin k0_t2_loop.trips) : Fin 3 → Nat :=
  let c0_1752 : Index := 0#32
  let c0_i32_1742 : BitVec 32 := 0#32
  let c1_i32_1744 : BitVec 32 := 1#32
  let arg13 : BitVec 32 := Scf.iv c0_i32_1742 c1_i32_1744 k0_t2
  let c256_i32 : BitVec 32 := 256#32
  let v2849 : BitVec 32 := Scalar.muli arg13 c256_i32
  let v2850 : BitVec 32 := v2849
  let v2868 : Index := Scalar.indexCast v2850
  let c0_1753 : Index := 0#32
  ![0, v2868.toNat, 0]
def k0_off10 (k0_t2 : Fin k0_t2_loop.trips) : Fin 3 → Nat :=
  let c3_1755 : Index := 3#32
  let c0_i32_1742 : BitVec 32 := 0#32
  let c1_i32_1744 : BitVec 32 := 1#32
  let arg13 : BitVec 32 := Scf.iv c0_i32_1742 c1_i32_1744 k0_t2
  let c256_i32 : BitVec 32 := 256#32
  let v2849 : BitVec 32 := Scalar.muli arg13 c256_i32
  let v2850 : BitVec 32 := v2849
  let v2874 : Index := Scalar.indexCast v2850
  let c0_1756 : Index := 0#32
  ![3, v2874.toNat, 0]
def k0_off11 (k0_t2 : Fin k0_t2_loop.trips) : Fin 3 → Nat :=
  let c6_1757 : Index := 6#32
  let c0_i32_1742 : BitVec 32 := 0#32
  let c1_i32_1744 : BitVec 32 := 1#32
  let arg13 : BitVec 32 := Scf.iv c0_i32_1742 c1_i32_1744 k0_t2
  let c256_i32 : BitVec 32 := 256#32
  let v2849 : BitVec 32 := Scalar.muli arg13 c256_i32
  let v2850 : BitVec 32 := v2849
  let v2879 : Index := Scalar.indexCast v2850
  let c0_1758 : Index := 0#32
  ![6, v2879.toNat, 0]
def k0_off12 (k0_t2 : Fin k0_t2_loop.trips) : Fin 3 → Nat :=
  let c2_1759 : Index := 2#32
  let c0_i32_1742 : BitVec 32 := 0#32
  let c1_i32_1744 : BitVec 32 := 1#32
  let arg13 : BitVec 32 := Scf.iv c0_i32_1742 c1_i32_1744 k0_t2
  let c256_i32 : BitVec 32 := 256#32
  let v2849 : BitVec 32 := Scalar.muli arg13 c256_i32
  let v2850 : BitVec 32 := v2849
  let v2884 : Index := Scalar.indexCast v2850
  let c0_1760 : Index := 0#32
  ![2, v2884.toNat, 0]
def k0_off13 (k0_t2 : Fin k0_t2_loop.trips) : Fin 3 → Nat :=
  let c5_1762 : Index := 5#32
  let c0_i32_1742 : BitVec 32 := 0#32
  let c1_i32_1744 : BitVec 32 := 1#32
  let arg13 : BitVec 32 := Scf.iv c0_i32_1742 c1_i32_1744 k0_t2
  let c256_i32 : BitVec 32 := 256#32
  let v2849 : BitVec 32 := Scalar.muli arg13 c256_i32
  let v2850 : BitVec 32 := v2849
  let v2890 : Index := Scalar.indexCast v2850
  let c0_1763 : Index := 0#32
  ![5, v2890.toNat, 0]
def k0_off14 (k0_t2 : Fin k0_t2_loop.trips) : Fin 3 → Nat :=
  let c8_1764 : Index := 8#32
  let c0_i32_1742 : BitVec 32 := 0#32
  let c1_i32_1744 : BitVec 32 := 1#32
  let arg13 : BitVec 32 := Scf.iv c0_i32_1742 c1_i32_1744 k0_t2
  let c256_i32 : BitVec 32 := 256#32
  let v2849 : BitVec 32 := Scalar.muli arg13 c256_i32
  let v2850 : BitVec 32 := v2849
  let v2895 : Index := Scalar.indexCast v2850
  let c0_1765 : Index := 0#32
  ![8, v2895.toNat, 0]
def k0_off15 (k0_t1 : Fin k0_t1_loop.trips) : Fin 4 → Nat :=
  let c0_i32 : BitVec 32 := 0#32
  let c1_i32 : BitVec 32 := 1#32
  let arg12 : BitVec 32 := Scf.iv c0_i32 c1_i32 k0_t1
  let c0_i32_1766 : BitVec 32 := 0#32
  let c0_i32_1767 : BitVec 32 := 0#32
  let c0_i32_1768 : BitVec 32 := 0#32
  ![arg12.toNat, 0, 0, 0]
def k0_off16 (k0_t2 : Fin k0_t2_loop.trips) : Fin 2 → Nat :=
  let c0_i32_1742 : BitVec 32 := 0#32
  let c1_i32_1744 : BitVec 32 := 1#32
  let arg13 : BitVec 32 := Scf.iv c0_i32_1742 c1_i32_1744 k0_t2
  let c256_i32 : BitVec 32 := 256#32
  let v2849 : BitVec 32 := Scalar.muli arg13 c256_i32
  let v2850 : BitVec 32 := v2849
  let v2904 : Index := Scalar.indexCast v2850
  let c0_1769 : Index := 0#32
  ![v2904.toNat, 0]
def k0_off17 (k0_t1 : Fin k0_t1_loop.trips) (k0_t2 : Fin k0_t2_loop.trips) : Fin 4 → Nat :=
  let c0_i32 : BitVec 32 := 0#32
  let c1_i32 : BitVec 32 := 1#32
  let arg12 : BitVec 32 := Scf.iv c0_i32 c1_i32 k0_t1
  let c0_i32_1766 : BitVec 32 := 0#32
  let c0_i32_1742 : BitVec 32 := 0#32
  let c1_i32_1744 : BitVec 32 := 1#32
  let arg13 : BitVec 32 := Scf.iv c0_i32_1742 c1_i32_1744 k0_t2
  let c256_i32 : BitVec 32 := 256#32
  let v2849 : BitVec 32 := Scalar.muli arg13 c256_i32
  let v2850 : BitVec 32 := v2849
  let v2904 : Index := Scalar.indexCast v2850
  let c0_i32_1768 : BitVec 32 := 0#32
  ![arg12.toNat, 0, v2904.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S6x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Xattn.lean ====
abbrev S20x32x2048x128 : Shape := ⟨4, ![20, 32, 2048, 128]⟩
abbrev S32x256x512 : Shape := ⟨3, ![32, 256, 512]⟩
abbrev S2x32x2048x128 : Shape := ⟨4, ![2, 32, 2048, 128]⟩
abbrev S2x1x2048x128 : Shape := ⟨4, ![2, 1, 2048, 128]⟩
abbrev S1x256x512 : Shape := ⟨3, ![1, 256, 512]⟩
abbrev S256x128 : Shape := ⟨2, ![256, 128]⟩
abbrev S1x1x256x128 : Shape := ⟨4, ![1, 1, 256, 128]⟩
abbrev S512x128 : Shape := ⟨2, ![512, 128]⟩
abbrev S1x256x128 : Shape := ⟨3, ![1, 256, 128]⟩
abbrev S512x256 : Shape := ⟨2, ![512, 256]⟩
abbrev S512 : Shape := ⟨1, ![512]⟩
abbrev S512x1 : Shape := ⟨2, ![512, 1]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S20x32x2048x128, .bf16⟩
  | .hbm, ⟨1, _⟩ => ⟨S32x256x512, .bf16⟩
  | .hbm, ⟨2, _⟩ => ⟨S2x32x2048x128, .bf16⟩
  | .local _ .vmem, ⟨0, _⟩ => ⟨S2x1x2048x128, .bf16⟩
  | .local _ .vmem, ⟨1, _⟩ => ⟨S2x1x2048x128, .bf16⟩
  | .local _ .vmem, ⟨2, _⟩ => ⟨S1x256x512, .bf16⟩
  | .local _ .vmem, ⟨3, _⟩ => ⟨S1x256x512, .bf16⟩
  | .local _ .vmem, ⟨4, _⟩ => ⟨S2x1x2048x128, .bf16⟩
  | .local _ .vmem, ⟨5, _⟩ => ⟨S2x1x2048x128, .bf16⟩
  | _, _ => ⟨S20x32x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c9_i32 : BitVec 32 := 9#32
  let c0_i32 : BitVec 32 := 0#32
  let c0_i32_0 : BitVec 32 := 0#32
  let c0_i32_1 : BitVec 32 := 0#32
  ![c9_i32.toNat, arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XattnRefIdeal.lean ====
abbrev S20x32x2048x128 : Shape := ⟨4, ![20, 32, 2048, 128]⟩
abbrev S32x256x512 : Shape := ⟨3, ![32, 256, 512]⟩
abbrev S2x32x2048x128 : Shape := ⟨4, ![2, 32, 2048, 128]⟩
abbrev S32x2048x2x128 : Shape := ⟨4, ![32, 2048, 2, 128]⟩
abbrev S32x2048x4x64 : Shape := ⟨4, ![32, 2048, 4, 64]⟩
abbrev S32x256x256 : Shape := ⟨3, ![32, 256, 256]⟩
abbrev S32x256x4x64 : Shape := ⟨4, ![32, 256, 4, 64]⟩
abbrev S32x4x2048x256 : Shape := ⟨4, ![32, 4, 2048, 256]⟩
abbrev S_ : Shape := ⟨0, ![]⟩
abbrev S32x4x2048 : Shape := ⟨3, ![32, 4, 2048]⟩
abbrev S32x4x2048x1 : Shape := ⟨4, ![32, 4, 2048, 1]⟩
abbrev S32x4x64x2048 : Shape := ⟨4, ![32, 4, 64, 2048]⟩

abbrev nBuf : Space → Nat
  | .hbm => 34
  | .vmem => 0
  | .smem => 0
  | _ => 0

abbrev bufTy : (tb : Table) → Fin (tcTables nBuf tb) → BufTy
  | .hbm, ⟨0, _⟩ => ⟨S20x32x2048x128, .bf16⟩
  | .hbm, ⟨1, _⟩ => ⟨S32x256x512, .bf16⟩
  | .hbm, ⟨2, _⟩ => ⟨S2x32x2048x128, .bf16⟩
  | .hbm, ⟨3, _⟩ => ⟨S2x32x2048x128, .f32⟩
  | .hbm, ⟨4, _⟩ => ⟨S32x2048x2x128, .f32⟩
  | .hbm, ⟨5, _⟩ => ⟨S32x2048x4x64, .f32⟩
  | .hbm, ⟨6, _⟩ => ⟨S32x256x512, .f32⟩
  | .hbm, ⟨7, _⟩ => ⟨S32x256x256, .f32⟩
  | .hbm, ⟨8, _⟩ => ⟨S32x256x256, .f32⟩
  | .hbm, ⟨9, _⟩ => ⟨S32x256x4x64, .f32⟩
  | .hbm, ⟨10, _⟩ => ⟨S32x256x4x64, .f32⟩
  | .hbm, ⟨11, _⟩ => ⟨S32x4x2048x256, .f32⟩
  | .hbm, ⟨12, _⟩ => ⟨S_, .f32⟩
  | .hbm, ⟨13, _⟩ => ⟨S32x4x2048x256, .f32⟩
  | .hbm, ⟨14, _⟩ => ⟨S32x4x2048x256, .f32⟩
  | .hbm, ⟨15, _⟩ => ⟨S_, .f32⟩
  | .hbm, ⟨16, _⟩ => ⟨S32x4x2048, .f32⟩
  | .hbm, ⟨17, _⟩ => ⟨S_, .f32⟩
  | .hbm, ⟨18, _⟩ => ⟨S32x4x2048, .f32⟩
  | .hbm, ⟨19, _⟩ => ⟨S32x4x2048, .f32⟩
  | .hbm, ⟨20, _⟩ => ⟨S32x4x2048x1, .f32⟩
  | .hbm, ⟨21, _⟩ => ⟨S32x4x2048x256, .f32⟩
  | .hbm, ⟨22, _⟩ => ⟨S32x4x2048x256, .f32⟩
  | .hbm, ⟨23, _⟩ => ⟨S32x4x2048x256, .f32⟩
  | .hbm, ⟨24, _⟩ => ⟨S_, .f32⟩
  | .hbm, ⟨25, _⟩ => ⟨S32x4x2048, .f32⟩
  | .hbm, ⟨26, _⟩ => ⟨S32x4x2048x1, .f32⟩
  | .hbm, ⟨27, _⟩ => ⟨S32x4x2048x256, .f32⟩
  | .hbm, ⟨28, _⟩ => ⟨S32x4x2048x256, .f32⟩
  | .hbm, ⟨29, _⟩ => ⟨S32x4x64x2048, .f32⟩
  | .hbm, ⟨30, _⟩ => ⟨S32x2048x4x64, .f32⟩
  | .hbm, ⟨31, _⟩ => ⟨S32x2048x2x128, .f32⟩
  | .hbm, ⟨32, _⟩ => ⟨S2x32x2048x128, .f32⟩
  | .hbm, ⟨33, _⟩ => ⟨S2x32x2048x128, .bf16⟩
  | _, _ => ⟨S20x32x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Sgu.lean ====
abbrev S65536x1024 : Shape := ⟨2, ![65536, 1024]⟩
abbrev S1024x1792 : Shape := ⟨2, ![1024, 1792]⟩
abbrev S768 : Shape := ⟨1, ![768]⟩
abbrev S12x128x128 : Shape := ⟨3, ![12, 128, 128]⟩
abbrev S12x128 : Shape := ⟨2, ![12, 128]⟩
abbrev S128x12 : Shape := ⟨2, ![128, 12]⟩
abbrev S128x12x64 : Shape := ⟨3, ![128, 12, 64]⟩
abbrev S128x768 : Shape := ⟨2, ![128, 768]⟩
abbrev S1x768 : Shape := ⟨2, ![1, 768]⟩
abbrev S6x65536x128 : Shape := ⟨3, ![6, 65536, 128]⟩
abbrev S2x65536x128 : Shape := ⟨3, ![2, 65536, 128]⟩
abbrev S512x1024 : Shape := ⟨2, ![512, 1024]⟩
abbrev S6x512x128 : Shape := ⟨3, ![6, 512, 128]⟩
abbrev S2x512x128 : Shape := ⟨3, ![2, 512, 128]⟩
abbrev S512x768 : Shape := ⟨2, ![512, 768]⟩
abbrev S128x128 : Shape := ⟨2, ![128, 128]⟩
abbrev S256x1024 : Shape := ⟨2, ![256, 1024]⟩
abbrev S256x1792 : Shape := ⟨2, ![256, 1792]⟩
abbrev S256x768 : Shape := ⟨2, ![256, 768]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S1x128x128 : Shape := ⟨3, ![1, 128, 128]⟩

abbrev nBuf : Space → Nat
  | .hbm => 14
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S1024x1792, .f32⟩
  | .hbm, ⟨2, _⟩ => ⟨S768, .f32⟩
  | .hbm, ⟨3, _⟩ => ⟨S768, .f32⟩
  | .hbm, ⟨4, _⟩ => ⟨S12x128x128, .f32⟩
  | .hbm, ⟨5, _⟩ => ⟨S12x128, .f32⟩
  | .hbm, ⟨6, _⟩ => ⟨S128x12, .f32⟩
  | .hbm, ⟨7, _⟩ => ⟨S128x12x64, .f32⟩
  | .hbm, ⟨8, _⟩ => ⟨S128x768, .f32⟩
  | .hbm, ⟨9, _⟩ => ⟨S1024x1792, .bf16⟩
  | .hbm, ⟨10, _⟩ => ⟨S1x768, .f32⟩
  | .hbm, ⟨11, _⟩ => ⟨S1x768, .f32⟩
  | .hbm, ⟨12, _⟩ => ⟨S6x65536x128, .bf16⟩
  | .hbm, ⟨13, _⟩ => ⟨S2x65536x128, .bf16⟩
  | .local _ .vmem, ⟨0, _⟩ => ⟨S512x1024, .f32⟩
  | .local _ .vmem, ⟨1, _⟩ => ⟨S512x1024, .f32⟩
  | .local _ .vmem, ⟨2, _⟩ => ⟨S1024x1792, .bf16⟩
  | .local _ .vmem, ⟨3, _⟩ => ⟨S1x768, .f32⟩
  | .local _ .vmem, ⟨4, _⟩ => ⟨S1x768, .f32⟩
  | .local _ .vmem, ⟨5, _⟩ => ⟨S12x128x128, .f32⟩
  | .local _ .vmem, ⟨6, _⟩ => ⟨S128x768, .f32⟩
  | .local _ .vmem, ⟨7, _⟩ => ⟨S6x512x128, .bf16⟩
  | .local _ .vmem, ⟨8, _⟩ => ⟨S6x512x128, .bf16⟩
  | .local _ .vmem, ⟨9, _⟩ => ⟨S2x512x128, .bf16⟩
  | .local _ .vmem, ⟨10, _⟩ => ⟨S2x512x128, .bf16⟩
  | .local _ .vmem, ⟨11, _⟩ => ⟨S512x768, .f32⟩
  | .local _ .vmem, ⟨12, _⟩ => ⟨S512x768, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SguIdeal.lean ====
variable {F : FTy → Type} [FloatOps F] [Named F]
def κ : String → Option EReal := fun
  | "gelu_c2" => some (((6693141 / 8388608) * (12003091 / 268435456) : ℝ) : EReal)
  | _ => none
-- ==== SguRefIdeal.lean ====
abbrev S65536x1024 : Shape := ⟨2, ![65536, 1024]⟩
abbrev S1024x1792 : Shape := ⟨2, ![1024, 1792]⟩
abbrev S768 : Shape := ⟨1, ![768]⟩
abbrev S12x128x128 : Shape := ⟨3, ![12, 128, 128]⟩
abbrev S12x128 : Shape := ⟨2, ![12, 128]⟩
abbrev S65536x1792 : Shape := ⟨2, ![65536, 1792]⟩
abbrev S65536x768 : Shape := ⟨2, ![65536, 768]⟩
abbrev S65536x256 : Shape := ⟨2, ![65536, 256]⟩
abbrev S_ : Shape := ⟨0, ![]⟩
abbrev S65536 : Shape := ⟨1, ![65536]⟩
abbrev S65536x1 : Shape := ⟨2, ![65536, 1]⟩
abbrev S1x768 : Shape := ⟨2, ![1, 768]⟩
abbrev S512x128x12x64 : Shape := ⟨4, ![512, 128, 12, 64]⟩
abbrev S128x128 : Shape := ⟨2, ![128, 128]⟩
abbrev S1x128x128 : Shape := ⟨3, ![1, 128, 128]⟩
abbrev S12x512x64x128 : Shape := ⟨4, ![12, 512, 64, 128]⟩
abbrev S128x12 : Shape := ⟨2, ![128, 12]⟩
abbrev S1x128x12x1 : Shape := ⟨4, ![1, 128, 12, 1]⟩
abbrev S65536x6x128 : Shape := ⟨3, ![65536, 6, 128]⟩
abbrev S6x65536x128 : Shape := ⟨3, ![6, 65536, 128]⟩
abbrev S65536x2x128 : Shape := ⟨3, ![65536, 2, 128]⟩
abbrev S2x65536x128 : Shape := ⟨3, ![2, 65536, 128]⟩

abbrev nBuf : Space → Nat
  | .hbm => 102
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1792, .f32⟩
  | .hbm, ⟨2, _⟩ => ⟨S768, .f32⟩
  | .hbm, ⟨3, _⟩ => ⟨S768, .f32⟩
  | .hbm, ⟨4, _⟩ => ⟨S12x128x128, .f32⟩
  | .hbm, ⟨5, _⟩ => ⟨S12x128, .f32⟩
  | .hbm, ⟨6, _⟩ => ⟨S65536x1792, .f32⟩
  | .hbm, ⟨7, _⟩ => ⟨S65536x768, .f32⟩
  | .hbm, ⟨8, _⟩ => ⟨S65536x768, .f32⟩
  | .hbm, ⟨9, _⟩ => ⟨S65536x256, .f32⟩
  | .hbm, ⟨10, _⟩ => ⟨S65536x768, .f32⟩
  | .hbm, ⟨11, _⟩ => ⟨S65536x768, .f32⟩
  | .hbm, ⟨12, _⟩ => ⟨S_, .f32⟩
  | .hbm, ⟨13, _⟩ => ⟨S65536x768, .f32⟩
  | .hbm, ⟨14, _⟩ => ⟨S65536x768, .f32⟩
  | .hbm, ⟨15, _⟩ => ⟨S65536x768, .f32⟩
  | .hbm, ⟨16, _⟩ => ⟨S_, .f32⟩
  | .hbm, ⟨17, _⟩ => ⟨S65536x768, .f32⟩
  | .hbm, ⟨18, _⟩ => ⟨S65536x768, .f32⟩
  | .hbm, ⟨19, _⟩ => ⟨S65536x768, .f32⟩
  | .hbm, ⟨20, _⟩ => ⟨S_, .f32⟩
  | .hbm, ⟨21, _⟩ => ⟨S65536x768, .f32⟩
  | .hbm, ⟨22, _⟩ => ⟨S65536x768, .f32⟩
  | .hbm, ⟨23, _⟩ => ⟨S_, .f32⟩
  | .hbm, ⟨24, _⟩ => ⟨S65536x768, .f32⟩
  | .hbm, ⟨25, _⟩ => ⟨S65536x768, .f32⟩
  | .hbm, ⟨26, _⟩ => ⟨S65536x768, .f32⟩
  | .hbm, ⟨27, _⟩ => ⟨S65536x768, .f32⟩
  | .hbm, ⟨28, _⟩ => ⟨S65536x768, .f32⟩
  | .hbm, ⟨29, _⟩ => ⟨S_, .f32⟩
  | .hbm, ⟨30, _⟩ => ⟨S65536x768, .f32⟩
  | .hbm, ⟨31, _⟩ => ⟨S65536x768, .f32⟩
  | .hbm, ⟨32, _⟩ => ⟨S65536x768, .f32⟩
  | .hbm, ⟨33, _⟩ => ⟨S_, .f32⟩
  | .hbm, ⟨34, _⟩ => ⟨S65536x768, .f32⟩
  | .hbm, ⟨35, _⟩ => ⟨S65536x768, .f32⟩
  | .hbm, ⟨36, _⟩ => ⟨S65536x768, .f32⟩
  | .hbm, ⟨37, _⟩ => ⟨S_, .f32⟩
  | .hbm, ⟨38, _⟩ => ⟨S65536x768, .f32⟩
  | .hbm, ⟨39, _⟩ => ⟨S65536x768, .f32⟩
  | .hbm, ⟨40, _⟩ => ⟨S_, .f32⟩
  | .hbm, ⟨41, _⟩ => ⟨S65536x768, .f32⟩
  | .hbm, ⟨42, _⟩ => ⟨S65536x768, .f32⟩
  | .hbm, ⟨43, _⟩ => ⟨S65536x768, .f32⟩
  | .hbm, ⟨44, _⟩ => ⟨S_, .f32⟩
  | .hbm, ⟨45, _⟩ => ⟨S65536, .f32⟩
  | .hbm, ⟨46, _⟩ => ⟨S65536x1, .f32⟩
  | .hbm, ⟨47, _⟩ => ⟨S_, .f32⟩
  | .hbm, ⟨48, _⟩ => ⟨S65536x1, .f32⟩
  | .hbm, ⟨49, _⟩ => ⟨S65536x1, .f32⟩
  | .hbm, ⟨50, _⟩ => ⟨S65536x768, .f32⟩
  | .hbm, ⟨51, _⟩ => ⟨S65536x768, .f32⟩
  | .hbm, ⟨52, _⟩ => ⟨S65536x768, .f32⟩
  | .hbm, ⟨53, _⟩ => ⟨S_, .f32⟩
  | .hbm, ⟨54, _⟩ => ⟨S65536, .f32⟩
  | .hbm, ⟨55, _⟩ => ⟨S65536x1, .f32⟩
  | .hbm, ⟨56, _⟩ => ⟨S_, .f32⟩
  | .hbm, ⟨57, _⟩ => ⟨S65536x1, .f32⟩
  | .hbm, ⟨58, _⟩ => ⟨S65536x1, .f32⟩
  | .hbm, ⟨59, _⟩ => ⟨S65536x768, .f32⟩
  | .hbm, ⟨60, _⟩ => ⟨S65536x768, .f32⟩
  | .hbm, ⟨61, _⟩ => ⟨S_, .f32⟩
  | .hbm, ⟨62, _⟩ => ⟨S65536x1, .f32⟩
  | .hbm, ⟨63, _⟩ => ⟨S65536x1, .f32⟩
  | .hbm, ⟨64, _⟩ => ⟨S65536x1, .f32⟩
  | .hbm, ⟨65, _⟩ => ⟨S65536x768, .f32⟩
  | .hbm, ⟨66, _⟩ => ⟨S65536x768, .f32⟩
  | .hbm, ⟨67, _⟩ => ⟨S1x768, .f32⟩
  | .hbm, ⟨68, _⟩ => ⟨S65536x768, .f32⟩
  | .hbm, ⟨69, _⟩ => ⟨S65536x768, .f32⟩
  | .hbm, ⟨70, _⟩ => ⟨S1x768, .f32⟩
  | .hbm, ⟨71, _⟩ => ⟨S65536x768, .f32⟩
  | .hbm, ⟨72, _⟩ => ⟨S65536x768, .f32⟩
  | .hbm, ⟨73, _⟩ => ⟨S512x128x12x64, .f32⟩
  | .hbm, ⟨74, _⟩ => ⟨S_, .f32⟩
  | .hbm, ⟨75, _⟩ => ⟨S128x128, .f32⟩
  | .hbm, ⟨76, _⟩ => ⟨S128x128, .i32⟩
  | .hbm, ⟨77, _⟩ => ⟨S_, .i32⟩
  | .hbm, ⟨78, _⟩ => ⟨S128x128, .i32⟩
  | .hbm, ⟨79, _⟩ => ⟨S128x128, .i32⟩
  | .hbm, ⟨80, _⟩ => ⟨S128x128, .i32⟩
  | .hbm, ⟨81, _⟩ => ⟨S128x128, .i1⟩
  | .hbm, ⟨82, _⟩ => ⟨S_, .f32⟩
  | .hbm, ⟨83, _⟩ => ⟨S128x128, .f32⟩
  | .hbm, ⟨84, _⟩ => ⟨S128x128, .f32⟩
  | .hbm, ⟨85, _⟩ => ⟨S1x128x128, .f32⟩
  | .hbm, ⟨86, _⟩ => ⟨S12x128x128, .f32⟩
  | .hbm, ⟨87, _⟩ => ⟨S12x128x128, .f32⟩
  | .hbm, ⟨88, _⟩ => ⟨S12x512x64x128, .f32⟩
  | .hbm, ⟨89, _⟩ => ⟨S512x128x12x64, .f32⟩
  | .hbm, ⟨90, _⟩ => ⟨S128x12, .f32⟩
  | .hbm, ⟨91, _⟩ => ⟨S1x128x12x1, .f32⟩
  | .hbm, ⟨92, _⟩ => ⟨S512x128x12x64, .f32⟩
  | .hbm, ⟨93, _⟩ => ⟨S512x128x12x64, .f32⟩
  | .hbm, ⟨94, _⟩ => ⟨S65536x768, .f32⟩
  | .hbm, ⟨95, _⟩ => ⟨S65536x768, .f32⟩
  | .hbm, ⟨96, _⟩ => ⟨S65536x6x128, .f32⟩
  | .hbm, ⟨97, _⟩ => ⟨S6x65536x128, .f32⟩
  | .hbm, ⟨98, _⟩ => ⟨S6x65536x128, .bf16⟩
  | .hbm, ⟨99, _⟩ => ⟨S65536x2x128, .f32⟩
  | .hbm, ⟨100, _⟩ => ⟨S2x65536x128, .f32⟩
  | .hbm, ⟨101, _⟩ => ⟨S2x65536x128, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_cst : Ref sig .tc := ⟨.hbm, 82, rfl⟩
abbrev main_call0_v5 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]
-- ==== Proj.lean ====
abbrev S65536x1024 : Shape := ⟨2, ![65536, 1024]⟩
abbrev S1024x2560 : Shape := ⟨2, ![1024, 2560]⟩
abbrev S20x65536x128 : Shape := ⟨3, ![20, 65536, 128]⟩
abbrev S1024x1024 : Shape := ⟨2, ![1024, 1024]⟩
abbrev S20x1024x128 : Shape := ⟨3, ![20, 1024, 128]⟩
abbrev S1024x128 : Shape := ⟨2, ![1024, 128]⟩
abbrev S1x1024x128 : Shape := ⟨3, ![1, 1024, 128]⟩

abbrev nBuf : Space → Nat
  | .hbm => 4
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024x2560, .f32⟩
  | .hbm, ⟨2, _⟩ => ⟨S1024x2560, .bf16⟩
  | .hbm, ⟨3, _⟩ => ⟨S20x65536x128, .bf16⟩
  | .local _ .vmem, ⟨0, _⟩ => ⟨S1024x1024, .f32⟩
  | .local _ .vmem, ⟨1, _⟩ => ⟨S1024x1024, .f32⟩
  | .local _ .vmem, ⟨2, _⟩ => ⟨S1024x2560, .bf16⟩
  | .local _ .vmem, ⟨3, _⟩ => ⟨S20x1024x128, .bf16⟩
  | .local _ .vmem, ⟨4, _⟩ => ⟨S20x1024x128, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjRefIdeal.lean ====
abbrev S65536x1024 : Shape := ⟨2, ![65536, 1024]⟩
abbrev S1024x2560 : Shape := ⟨2, ![1024, 2560]⟩
abbrev S65536x2560 : Shape := ⟨2, ![65536, 2560]⟩
abbrev S65536x20x128 : Shape := ⟨3, ![65536, 20, 128]⟩
abbrev S20x65536x128 : Shape := ⟨3, ![20, 65536, 128]⟩

abbrev nBuf : Space → Nat
  | .hbm => 6
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2560, .f32⟩
  | .hbm, ⟨2, _⟩ => ⟨S65536x2560, .f32⟩
  | .hbm, ⟨3, _⟩ => ⟨S65536x20x128, .f32⟩
  | .hbm, ⟨4, _⟩ => ⟨S20x65536x128, .f32⟩
  | .hbm, ⟨5, _⟩ => ⟨S20x65536x128, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mkv.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S1024x512, .bf16⟩
  | .hbm, ⟨3, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S512x512, .bf16⟩
  | .local _ .vmem, ⟨4, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MkvRefIdeal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Tail.lean ====
abbrev S6x65536x128 : Shape := ⟨3, ![6, 65536, 128]⟩
abbrev S2x65536x128 : Shape := ⟨3, ![2, 65536, 128]⟩
abbrev S65536x1024 : Shape := ⟨2, ![65536, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S6x512x128 : Shape := ⟨3, ![6, 512, 128]⟩
abbrev S2x512x128 : Shape := ⟨3, ![2, 512, 128]⟩
abbrev S512x1024 : Shape := ⟨2, ![512, 1024]⟩
abbrev S512x2816 : Shape := ⟨2, ![512, 2816]⟩
abbrev S1x256x128 : Shape := ⟨3, ![1, 256, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 20
  | .vmem => 19
  | .smem => 0
  | _ => 0

abbrev bufTy : (tb : Table) → Fin (tcTables nBuf tb) → BufTy
  | .hbm, ⟨0, _⟩ => ⟨S6x65536x128, .bf16⟩
  | .hbm, ⟨1, _⟩ => ⟨S2x65536x128, .bf16⟩
  | .hbm, ⟨2, _⟩ => ⟨S65536x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S1x1024, .f32⟩
  | .hbm, ⟨18, _⟩ => ⟨S1x1024, .f32⟩
  | .hbm, ⟨19, _⟩ => ⟨S65536x1024, .f32⟩
  | .local _ .vmem, ⟨0, _⟩ => ⟨S6x512x128, .bf16⟩
  | .local _ .vmem, ⟨1, _⟩ => ⟨S6x512x128, .bf16⟩
  | .local _ .vmem, ⟨2, _⟩ => ⟨S2x512x128, .bf16⟩
  | .local _ .vmem, ⟨3, _⟩ => ⟨S2x512x128, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x2816, .bf16⟩
  | _, _ => ⟨S6x65536x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== TailRefIdeal.lean ====
abbrev S6x65536x128 : Shape := ⟨3, ![6, 65536, 128]⟩
abbrev S2x65536x128 : Shape := ⟨3, ![2, 65536, 128]⟩
abbrev S65536x1024 : Shape := ⟨2, ![65536, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S65536x6x128 : Shape := ⟨3, ![65536, 6, 128]⟩
abbrev S65536x768 : Shape := ⟨2, ![65536, 768]⟩
abbrev S65536x2x128 : Shape := ⟨3, ![65536, 2, 128]⟩
abbrev S65536x256 : Shape := ⟨2, ![65536, 256]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 98
  | .vmem => 0
  | .smem => 0
  | _ => 0

abbrev bufTy : (tb : Table) → Fin (tcTables nBuf tb) → BufTy
  | .hbm, ⟨0, _⟩ => ⟨S6x65536x128, .bf16⟩
  | .hbm, ⟨1, _⟩ => ⟨S2x65536x128, .bf16⟩
  | .hbm, ⟨2, _⟩ => ⟨S65536x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S6x65536x128, .f32⟩
  | .hbm, ⟨12, _⟩ => ⟨S65536x6x128, .f32⟩
  | .hbm, ⟨13, _⟩ => ⟨S65536x768, .f32⟩
  | .hbm, ⟨14, _⟩ => ⟨S2x65536x128, .f32⟩
  | .hbm, ⟨15, _⟩ => ⟨S65536x2x128, .f32⟩
  | .hbm, ⟨16, _⟩ => ⟨S65536x256, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S65536x1, .f32⟩
  | .hbm, ⟨44, _⟩ => ⟨S65536x1024, .f32⟩
  | .hbm, ⟨45, _⟩ => ⟨S65536x1024, .f32⟩
  | .hbm, ⟨46, _⟩ => ⟨S1x1024, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | .hbm, ⟨52, _⟩ => ⟨S65536x2816, .f32⟩
  | .hbm, ⟨53, _⟩ => ⟨S65536x2816, .f32⟩
  | .hbm, ⟨54, _⟩ => ⟨S65536x2816, .f32⟩
  | .hbm, ⟨55, _⟩ => ⟨S_, .f32⟩
  | .hbm, ⟨56, _⟩ => ⟨S65536x2816, .f32⟩
  | .hbm, ⟨57, _⟩ => ⟨S65536x2816, .f32⟩
  | .hbm, ⟨58, _⟩ => ⟨S_, .f32⟩
  | .hbm, ⟨59, _⟩ => ⟨S65536x2816, .f32⟩
  | .hbm, ⟨60, _⟩ => ⟨S65536x2816, .f32⟩
  | .hbm, ⟨61, _⟩ => ⟨S65536x2816, .f32⟩
  | .hbm, ⟨62, _⟩ => ⟨S65536x2816, .f32⟩
  | .hbm, ⟨63, _⟩ => ⟨S65536x2816, .f32⟩
  | .hbm, ⟨64, _⟩ => ⟨S65536x1024, .f32⟩
  | .hbm, ⟨65, _⟩ => ⟨S_, .f32⟩
  | .hbm, ⟨66, _⟩ => ⟨S65536x1024, .f32⟩
  | .hbm, ⟨67, _⟩ => ⟨S65536x1024, .f32⟩
  | .hbm, ⟨68, _⟩ => ⟨S65536x1024, .f32⟩
  | .hbm, ⟨69, _⟩ => ⟨S_, .f32⟩
  | .hbm, ⟨70, _⟩ => ⟨S65536, .f32⟩
  | .hbm, ⟨71, _⟩ => ⟨S65536x1, .f32⟩
  | .hbm, ⟨72, _⟩ => ⟨S_, .f32⟩
  | .hbm, ⟨73, _⟩ => ⟨S65536x1, .f32⟩
  | .hbm, ⟨74, _⟩ => ⟨S65536x1, .f32⟩
  | .hbm, ⟨75, _⟩ => ⟨S65536x1024, .f32⟩
  | .hbm, ⟨76, _⟩ => ⟨S65536x1024, .f32⟩
  | .hbm, ⟨77, _⟩ => ⟨S65536x1024, .f32⟩
  | .hbm, ⟨78, _⟩ => ⟨S_, .f32⟩
  | .hbm, ⟨79, _⟩ => ⟨S65536, .f32⟩
  | .hbm, ⟨80, _⟩ => ⟨S65536x1, .f32⟩
  | .hbm, ⟨81, _⟩ => ⟨S_, .f32⟩
  | .hbm, ⟨82, _⟩ => ⟨S65536x1, .f32⟩
  | .hbm, ⟨83, _⟩ => ⟨S65536x1, .f32⟩
  | .hbm, ⟨84, _⟩ => ⟨S65536x1024, .f32⟩
  | .hbm, ⟨85, _⟩ => ⟨S65536x1024, .f32⟩
  | .hbm, ⟨86, _⟩ => ⟨S_, .f32⟩
  | .hbm, ⟨87, _⟩ => ⟨S65536x1, .f32⟩
  | .hbm, ⟨88, _⟩ => ⟨S65536x1, .f32⟩
  | .hbm, ⟨89, _⟩ => ⟨S65536x1, .f32⟩
  | .hbm, ⟨90, _⟩ => ⟨S65536x1024, .f32⟩
  | .hbm, ⟨91, _⟩ => ⟨S65536x1024, .f32⟩
  | .hbm, ⟨92, _⟩ => ⟨S1x1024, .f32⟩
  | .hbm, ⟨93, _⟩ => ⟨S65536x1024, .f32⟩
  | .hbm, ⟨94, _⟩ => ⟨S65536x1024, .f32⟩
  | .hbm, ⟨95, _⟩ => ⟨S1x1024, .f32⟩
  | .hbm, ⟨96, _⟩ => ⟨S65536x1024, .f32⟩
  | .hbm, ⟨97, _⟩ => ⟨S65536x1024, .f32⟩
  | _, _ => ⟨S6x65536x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]
-- ==== Proof.Keeps.lean ====
/-
  WHAT A PROGRAM KEEPS. `Keeps c I p` says that the program `p`, started with the resources `I` on thread `c`, ends with
  the same `I`, whatever it returns. It composes along the program's binds and loops. A load and an unmasked or masked store
  keep any `I` that owns the accessed buffer whole at some contents (`Owning`): the buffer is taken out, accessed,
  and put back.
-/
module

public import Idealize.ShloMosaic.Lib.Exec
public import Idealize.ShloMosaic.Lib.Tactic
public import Idealize.ShloMosaic.Lib.Pipeline.Kit
public import Idealize.ShloMosaic.Lib.Scf

@[expose] public section

noncomputable section

namespace Cert.Keep

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {nD : Nat} {τ : Topo} {sig : RefSig} {F : FTy → Type} [FloatOps F] {Λ : Labels}
variable {defs : Defs nD τ sig (Elt F) Λ} {c : Thread nD τ}

/-- The resources of a machine with one free name. -/
abbrev Res (nD : Nat) (τ : Topo) (sig : RefSig) (F : FTy → Type) := MT nD τ sig Unit (Elt F) ℕ (UR sig nD τ) ℕ

/-- The program `p` on thread `c` takes `I` to `I`, whatever it returns. -/
def Keeps (defs : Defs nD τ sig (Elt F) Λ) (c : Thread nD τ) (I : sProp (Res nD τ sig F)) {α : Type}
    (p : Prog (TpuEff nD τ sig (Elt F) Λ c.2) α) : Prop :=
  I ⊢ wp frame (wpE defs Variants.none c none) Set.univ p (fun _ => I)

variable {I : sProp (Res nD τ sig F)} {α β : Type}

theorem Keeps.ret (a : α) : Keeps defs c I (pure a) := by
  unfold Keeps
  rw [wp_pure]
  iintro H
  imodintro
  iexact H

theorem Keeps.bind {p : Prog (TpuEff nD τ sig (Elt F) Λ c.2) α} {k : α → Prog (TpuEff nD τ sig (Elt F) Λ c.2) β}
    (hp : Keeps defs c I p) (hk : ∀ a, Keeps defs c I (k a)) : Keeps defs c I (p >>= k) := by
  unfold Keeps
  rw [wp_bind]
  exact BIBase.Entails.trans hp (wp_mono _ _ _ hk)

theorem Keeps.loop {w : Nat} {σ : Type} (l : Scf.Loop w) (hok : l.OK) (init : σ)
    (body : Fin l.trips → σ → Prog (TpuEff nD τ sig (Elt F) Λ c.2) σ)
    (h : ∀ k a, Keeps defs c I (body k a)) : Keeps defs c I (Scf.Loop.for l hok init body) := by
  refine BIBase.Entails.trans ?_ (Scf.wp_for _ _ _ l.lb l.ub l.st hok init body (fun _ _ => I) h)
  iintro H
  isplitl [H]
  · iexact H
  · iintro %acc H
    iexact H

/-- `I` owns the buffer `ℓ` whole at some contents of which `P` is true: it is some rest beside such a buffer. -/
structure Owning (I : sProp (Res nD τ sig F)) (ℓ : Loc nD τ sig) (P : Buf (Elt F) ℓ → Prop) where
  rest : sProp (Res nD τ sig F)
  take : I ⊢ iprop(∃ f, ⌜P f⌝ ∗ rest ∗ (ℓ ↦[Finset.univ]{fullShare} f))
  put : ∀ f, P f → (iprop(rest ∗ (ℓ ↦[Finset.univ]{fullShare} f)) ⊢ I)

/-- The left conjunct's buffer is the conjunction's. -/
def Owning.left {A B : sProp (Res nD τ sig F)} {ℓ : Loc nD τ sig} {P : Buf (Elt F) ℓ → Prop} (O : Owning A ℓ P) :
    Owning iprop(A ∗ B) ℓ P where
  rest := iprop(O.rest ∗ B)
  take := by
    iintro ⟨HA, HB⟩
    ihave H := O.take $$ HA
    icases H with ⟨%f, %hf, HR, H⟩
    iexists f
    isplitr
    · ipureintro; exact hf
    isplitl [HR HB]
    · isplitl [HR] <;> iassumption
    iexact H
  put f hf := by
    iintro ⟨⟨HR, HB⟩, H⟩
    isplitr [HB]
    · iapply (O.put f hf)
      isplitl [HR] <;> iassumption
    iexact HB

/-- The right conjunct's buffer is the conjunction's. -/
def Owning.right {A B : sProp (Res nD τ sig F)} {ℓ : Loc nD τ sig} {P : Buf (Elt F) ℓ → Prop} (O : Owning B ℓ P) :
    Owning iprop(A ∗ B) ℓ P where
  rest := iprop(A ∗ O.rest)
  take := by
    iintro ⟨HA, HB⟩
    ihave H := O.take $$ HB
    icases H with ⟨%f, %hf, HR, H⟩
    iexists f
    isplitr
    · ipureintro; exact hf
    isplitl [HR HA]
    · isplitl [HA] <;> iassumption
    iexact H
  put f hf := by
    iintro ⟨⟨HA, HR⟩, H⟩
    isplitl [HA]
    · iexact HA
    iapply (O.put f hf)
    isplitl [HR] <;> iassumption

variable {s : Shape} {e : EltTy} {cs : CoreSpace}

/-- A whole memref owned at the contents `X` owns its buffer. -/
def Owning.at {m : Memref sig c.2.kind (.core cs) s e} (hm : m.IsWhole) (X : s.Idx → Elt F e) :
    Owning (owns c m fullShare X) (m.view.loc c) (fun f => m.view.read (Elt F) f = X) where
  rest := iprop(emp)
  take := by
    unfold owns
    rw [hm.set_eq_univ]
    iintro ⟨%f, %hf, H⟩
    iexists f
    isplitr
    · ipureintro; exact hf
    isplitr
    · iempintro
    iexact H
  put f hf := by
    unfold owns
    rw [hm.set_eq_univ]
    iintro ⟨-, H⟩
    iexists f
    isplitr
    · ipureintro; exact hf
    iexact H

/-- A whole memref owned at some contents owns its buffer. -/
def Owning.some {m : Memref sig c.2.kind (.core cs) s e} (hm : m.IsWhole) :
    Owning iprop(∃ X, owns (Val := Elt F) c m fullShare X) (m.view.loc c) (fun _ => True) where
  rest := iprop(emp)
  take := by
    unfold owns
    rw [hm.set_eq_univ]
    iintro ⟨%X, %f, %hf, H⟩
    iexists f
    isplitr
    · ipureintro; trivial
    isplitr
    · iempintro
    iexact H
  put f _ := by
    unfold owns
    rw [hm.set_eq_univ]
    iintro ⟨-, H⟩
    iexists (m.view.read (Elt F) f)
    iexists f
    isplitr
    · ipureintro; rfl
    iexact H

theorem Keeps.load {m : Memref sig c.2.kind cs s e} {r : LoadRect s} {hl : m.view.LoadsAt r}
    {P : Buf (Elt F) (m.view.loc c) → Prop} (O : Owning I (m.view.loc c) P) :
    Keeps defs c I (Prog.lift (.load m r hl)) := by
  refine O.take.trans ?_
  iintro ⟨%f, %hf, HR, H⟩
  iapply (wp_load (defs := defs) Variants.none c none Set.univ (hl := hl) (S := Finset.univ) (Finset.subset_univ _)) $$ H
  iintro H
  rw [wp_ret]
  imodintro
  iapply (O.put f hf)
  isplitl [HR] <;> iassumption

theorem Keeps.store {m : Memref sig c.2.kind cs s e} {r : Rect s} {w : r.shape.Idx → Elt F e} {Mk : Finset r.shape.Idx}
    {hx : (m.access r).Stores Mk} {hm : Mk = Finset.univ ∨ ∀ a, r.stride a = 1}
    (O : Owning I (m.view.loc c) (fun _ => True)) :
    Keeps defs c I (Prog.lift (.store m r w Mk hx hm)) := by
  refine O.take.trans ?_
  iintro ⟨%f, -, HR, H⟩
  iapply (wp_store (defs := defs) Variants.none c none Set.univ (hx := hx) (hm := hm) (S := Finset.univ) (Finset.subset_univ _)) $$ H
  iintro H
  rw [wp_ret]
  imodintro
  iapply (O.put _ trivial)
  isplitl [HR] <;> iassumption

/-- A load, then the rest of the program. -/
theorem Keeps.ld {m : Memref sig c.2.kind cs s e} {r : LoadRect s} {hl : m.view.LoadsAt r}
    {k : _ → Prog (TpuEff nD τ sig (Elt F) Λ c.2) β} {P : Buf (Elt F) (m.view.loc c) → Prop}
    (O : Owning I (m.view.loc c) P) (h : ∀ a, Keeps defs c I (k a)) :
    Keeps defs c I (Prog.lift (.load m r hl) >>= k) :=
  (Keeps.load O).bind h

/-- A store, then the rest of the program. -/
theorem Keeps.st {m : Memref sig c.2.kind cs s e} {r : Rect s} {w : r.shape.Idx → Elt F e} {Mk : Finset r.shape.Idx}
    {hx : (m.access r).Stores Mk} {hm : Mk = Finset.univ ∨ ∀ a, r.stride a = 1}
    {k : _ → Prog (TpuEff nD τ sig (Elt F) Λ c.2) β} (O : Owning I (m.view.loc c) (fun _ => True))
    (h : ∀ a, Keeps defs c I (k a)) :
    Keeps defs c I (Prog.lift (.store m r w Mk hx hm) >>= k) :=
  (Keeps.store O).bind h

end Cert.Keep

end
-- ==== Proof.DilIdeal.Keeps.lean ====
/-
  WHAT THE DILATED ATTENTION'S BODY KEEPS. For any resources `I` that own the eleven buffers the body is handed (the three inputs at
  contents it never writes, the output and the seven scratch buffers at some contents), each part of the body, the
  merge loop and the loop over the six pairs keep `I`: the body only loads from these buffers and stores to the last eight.
-/
module

public import proofs.«01_k».proof.Proof.Gen.DilIdeal.Skeleton
public import proofs.«01_k».proof.Proof.Keeps

@[expose] public section

set_option maxRecDepth 65536

noncomputable section

namespace Cert.DilIdeal.Run

open Idealize.ShloMosaic Idealize.ShloMosaic.TcCoe
open Idealize.SL Idealize.SL.RA Idealize.SL.BI Idealize.SL.Sem
open Cert.DilIdeal.Gen Cert.Keep

variable {F : FTy → Type} [FloatOps F] {c : Dev nD} {I : sProp (Res nD τ sig F)} (i : grid0.Coords)
variable (arg1 : Memref sig .tc .vmem S6x1x2048x128 .bf16) (harg1 : arg1.IsWhole)
variable (arg2 : Memref sig .tc .vmem S6x1x2048x128 .bf16) (harg2 : arg2.IsWhole)
variable (arg3 : Memref sig .tc .vmem S6x1x2048x128 .bf16) (harg3 : arg3.IsWhole)
variable (arg4 : Memref sig .tc .vmem S6x1x2048x128 .bf16) (harg4 : arg4.IsWhole)
variable (arg5 : Memref sig .tc .vmem S6x2048x128 .f32) (harg5 : arg5.IsWhole)
variable (arg6 : Memref sig .tc .vmem S2x2048x128 .bf16) (harg6 : arg6.IsWhole)
variable (arg7 : Memref sig .tc .vmem S2048x128 .bf16) (harg7 : arg7.IsWhole)
variable (arg8 : Memref sig .tc .vmem S2048x128 .bf16) (harg8 : arg8.IsWhole)
variable (arg9 : Memref sig .tc .vmem S256x256 .f32) (harg9 : arg9.IsWhole)
variable (arg10 : Memref sig .tc .vmem S9x2048x128 .f32) (harg10 : arg10.IsWhole)
variable (arg11 : Memref sig .tc .vmem S3x2048x128 .f32) (harg11 : arg11.IsWhole)
variable {P1 : Buf (Elt F) (arg1.view.loc (c : Thread nD τ)) → Prop} (O1 : Owning I (arg1.view.loc (c : Thread nD τ)) P1)
variable {P2 : Buf (Elt F) (arg2.view.loc (c : Thread nD τ)) → Prop} (O2 : Owning I (arg2.view.loc (c : Thread nD τ)) P2)
variable {P3 : Buf (Elt F) (arg3.view.loc (c : Thread nD τ)) → Prop} (O3 : Owning I (arg3.view.loc (c : Thread nD τ)) P3)
variable (O4 : Owning I (arg4.view.loc (c : Thread nD τ)) (fun _ => True))
variable (O5 : Owning I (arg5.view.loc (c : Thread nD τ)) (fun _ => True))
variable (O6 : Owning I (arg6.view.loc (c : Thread nD τ)) (fun _ => True))
variable (O7 : Owning I (arg7.view.loc (c : Thread nD τ)) (fun _ => True))
variable (O8 : Owning I (arg8.view.loc (c : Thread nD τ)) (fun _ => True))
variable (O9 : Owning I (arg9.view.loc (c : Thread nD τ)) (fun _ => True))
variable (O10 : Owning I (arg10.view.loc (c : Thread nD τ)) (fun _ => True))
variable (O11 : Owning I (arg11.view.loc (c : Thread nD τ)) (fun _ => True))
include O1 O2 O3 O4 O5 O6 O7 O8 O9 O10 O11

theorem part1 (c0_i32_1742 : BitVec 32) (c1_i32_1744 : BitVec 32) (k0_t2 : Fin k0_t2_loop.trips) :
    Keeps defs₀ (c : Thread nD τ) I (k0_part1 (F := F) i arg1 harg1 arg2 harg2 arg3 harg3 arg4 harg4 arg5 harg5 arg6 harg6 arg7 harg7 arg8 harg8 arg9 harg9 arg10 harg10 arg11 harg11 c0_i32_1742 c1_i32_1744 k0_t2) := by
  rw [k0_part1_eq_skeleton]
  unfold k0_part1_skel
  exact .ld O10 fun _ => .ld O10 fun _ => .ld O10 fun _ => .ld O10 fun _ => .ld O10 fun _ => .ld O10 fun _ =>
    .ld O10 fun _ => .ret _

theorem part2 (c0_i32 : BitVec 32) (c1_i32 : BitVec 32) (k0_t1 : Fin k0_t1_loop.trips) :
    Keeps defs₀ (c : Thread nD τ) I (k0_part2 (F := F) i arg1 harg1 arg2 harg2 arg3 harg3 arg4 harg4 arg5 harg5 arg6 harg6 arg7 harg7 arg8 harg8 arg9 harg9 arg10 harg10 arg11 harg11 c0_i32 c1_i32 k0_t1) := by
  rw [k0_part2_eq_skeleton]
  unfold k0_part2_skel
  exact .ld O1 fun _ => .ld O5 fun _ => .st O5 fun _ => .ld O2 fun _ => .ld O5 fun _ => .st O5 fun _ => .ld O3
    fun _ => .ld O5 fun _ => .st O5 fun _ => .ret _

theorem part3 (arg12 : BitVec 32) (v27 : IVec S256x256 32) (v33 : IVec S256x256 32) (c2_i32 : BitVec 32) :
    Keeps defs₀ (c : Thread nD τ) I (k0_part3 (F := F) i arg1 harg1 arg2 harg2 arg3 harg3 arg4 harg4 arg5 harg5 arg6 harg6 arg7 harg7 arg8 harg8 arg9 harg9 arg10 harg10 arg11 harg11 arg12 v27 v33 c2_i32) := by
  rw [k0_part3_eq_skeleton]
  unfold k0_part3_skel
  exact .ld O9 fun _ => .st O9 fun _ => .ld O5 fun _ => .ld O6 fun _ => .ret _

theorem part4 (k0_t1 : Fin k0_t1_loop.trips) (v65 : IVec S2048x128 1) (v73 : FVec F S1x2048x128 .bf16) :
    Keeps defs₀ (c : Thread nD τ) I (k0_part4 (F := F) i arg1 harg1 arg2 harg2 arg3 harg3 arg4 harg4 arg5 harg5 arg6 harg6 arg7 harg7 arg8 harg8 arg9 harg9 arg10 harg10 arg11 harg11 k0_t1 v65 v73) := by
  rw [k0_part4_eq_skeleton]
  unfold k0_part4_skel
  exact .st O6 fun _ => .ld O5 fun _ => .ld O6 fun _ => .st O6 fun _ => .ld O6 fun _ => .ld O9 fun _ => .ld O2
    fun _ => .ld O6 fun _ => .ld O9 fun _ => .ld O2 fun _ => .ld O6 fun _ => .ret _

theorem part5 (k0_t1 : Fin k0_t1_loop.trips) (v89 : FVec F S256x128 .f32) (v97 : FVec F S256x256 .f32) (v99 : FVec F S256x128 .bf16) :
    Keeps defs₀ (c : Thread nD τ) I (k0_part5 (F := F) i arg1 harg1 arg2 harg2 arg3 harg3 arg4 harg4 arg5 harg5 arg6 harg6 arg7 harg7 arg8 harg8 arg9 harg9 arg10 harg10 arg11 harg11 k0_t1 v89 v97 v99) := by
  rw [k0_part5_eq_skeleton]
  unfold k0_part5_skel
  exact .ld O9 fun _ => .ld O2 fun _ => .ld O6 fun _ => .ld O9 fun _ => .ld O2 fun _ => .ld O3 fun _ => .ld O6
    fun _ => .ret _

theorem part6 (k0_t1 : Fin k0_t1_loop.trips) (v97 : FVec F S256x256 .f32) (v105 : FVec F S256x256 .f32) (v115 : FVec F S256x256 .f32) (v117 : FVec F S256x1 .f32) (v128 : Vec F S2x128x128 .bf16) :
    Keeps defs₀ (c : Thread nD τ) I (k0_part6 (F := F) i arg1 harg1 arg2 harg2 arg3 harg3 arg4 harg4 arg5 harg5 arg6 harg6 arg7 harg7 arg8 harg8 arg9 harg9 arg10 harg10 arg11 harg11 k0_t1 v97 v105 v115 v117 v128) := by
  rw [k0_part6_eq_skeleton]
  unfold k0_part6_skel
  exact .ld O9 fun _ => .ld O2 fun _ => .ld O3 fun _ => .ld O6 fun _ => .ld O9 fun _ => .ld O2 fun _ => .ret _

theorem part7 (k0_t1 : Fin k0_t1_loop.trips) (v3 : IVec S128x128 1) (v107 : FVec F S256x1 .f32) (v127 : FVec F S256x256 .f32) (v160 : FVec F S256x256 .f32) :
    Keeps defs₀ (c : Thread nD τ) I (k0_part7 (F := F) i arg1 harg1 arg2 harg2 arg3 harg3 arg4 harg4 arg5 harg5 arg6 harg6 arg7 harg7 arg8 harg8 arg9 harg9 arg10 harg10 arg11 harg11 k0_t1 v3 v107 v127 v160) := by
  rw [k0_part7_eq_skeleton]
  unfold k0_part7_skel
  exact .ld O3 fun _ => .ld O10 fun _ => .st O10 fun _ => .ld O10 fun _ => .st O10 fun _ => .ld O10 fun _ =>
    .st O10 fun _ => .ld O6 fun _ => .ld O9 fun _ => .ret _

theorem part8 (k0_t1 : Fin k0_t1_loop.trips) (v3 : IVec S128x128 1) (v115 : FVec F S256x256 .f32) (v117 : FVec F S256x1 .f32) (v135 : FVec F S256x256 .f32) (v147 : FVec F S256x256 .f32) (v157 : FVec F S256x1 .f32) (v193 : FVec F S256x128 .bf16) (v194 : Vec F S256x256 .f32) :
    Keeps defs₀ (c : Thread nD τ) I (k0_part8 (F := F) i arg1 harg1 arg2 harg2 arg3 harg3 arg4 harg4 arg5 harg5 arg6 harg6 arg7 harg7 arg8 harg8 arg9 harg9 arg10 harg10 arg11 harg11 k0_t1 v3 v115 v117 v135 v147 v157 v193 v194) := by
  rw [k0_part8_eq_skeleton]
  unfold k0_part8_skel
  exact .ld O2 fun _ => .ld O3 fun _ => .ld O10 fun _ => .st O10 fun _ => .ld O10 fun _ => .st O10 fun _ =>
    .ret _

theorem part9 (k0_t1 : Fin k0_t1_loop.trips) (v3 : IVec S128x128 1) (v135 : FVec F S256x256 .f32) (v137 : FVec F S256x1 .f32) (v155 : FVec F S256x256 .f32) (v167 : FVec F S256x256 .f32) (v201 : FVec F S256x1 .f32) (v226 : FVec F S128x128 .f32) :
    Keeps defs₀ (c : Thread nD τ) I (k0_part9 (F := F) i arg1 harg1 arg2 harg2 arg3 harg3 arg4 harg4 arg5 harg5 arg6 harg6 arg7 harg7 arg8 harg8 arg9 harg9 arg10 harg10 arg11 harg11 k0_t1 v3 v135 v137 v155 v167 v201 v226) := by
  rw [k0_part9_eq_skeleton]
  unfold k0_part9_skel
  exact .ld O10 fun _ => .st O10 fun _ => .ld O6 fun _ => .ld O9 fun _ => .ld O2 fun _ => .ld O3 fun _ => .ret
    _

theorem part10 (k0_t1 : Fin k0_t1_loop.trips) (v155 : FVec F S256x256 .f32) (v199 : FVec F S256x256 .f32) (v211 : FVec F S256x256 .f32) (v245 : FVec F S256x1 .f32) (v260 : FVec F S128x128 .f32) (v267 : FVec F S128x128 .f32) (v270 : FVec F S128x128 .f32) :
    Keeps defs₀ (c : Thread nD τ) I (k0_part10 (F := F) i arg1 harg1 arg2 harg2 arg3 harg3 arg4 harg4 arg5 harg5 arg6 harg6 arg7 harg7 arg8 harg8 arg9 harg9 arg10 harg10 arg11 harg11 k0_t1 v155 v199 v211 v245 v260 v267 v270) := by
  rw [k0_part10_eq_skeleton]
  unfold k0_part10_skel
  exact .ld O10 fun _ => .st O10 fun _ => .ld O10 fun _ => .st O10 fun _ => .ld O10 fun _ => .st O10 fun _ =>
    .ld O6 fun _ => .ld O9 fun _ => .ld O2 fun _ => .ld O3 fun _ => .ret _

theorem part11 (k0_t1 : Fin k0_t1_loop.trips) (v3 : IVec S128x128 1) (v157 : FVec F S256x1 .f32) (v199 : FVec F S256x256 .f32) (v211 : FVec F S256x256 .f32) (v243 : FVec F S256x256 .f32) (v289 : FVec F S256x1 .f32) (v300 : FVec F S256x128 .f32) :
    Keeps defs₀ (c : Thread nD τ) I (k0_part11 (F := F) i arg1 harg1 arg2 harg2 arg3 harg3 arg4 harg4 arg5 harg5 arg6 harg6 arg7 harg7 arg8 harg8 arg9 harg9 arg10 harg10 arg11 harg11 k0_t1 v3 v157 v199 v211 v243 v289 v300) := by
  rw [k0_part11_eq_skeleton]
  unfold k0_part11_skel
  exact .ld O10 fun _ => .st O10 fun _ => .ld O10 fun _ => .st O10 fun _ => .ld O10 fun _ => .st O10 fun _ =>
    .ld O6 fun _ => .ld O9 fun _ => .ld O2 fun _ => .ret _

theorem part12 (k0_t1 : Fin k0_t1_loop.trips) (v3 : IVec S128x128 1) (v201 : FVec F S256x1 .f32) (v255 : FVec F S256x256 .f32) (v336 : FVec F S256x256 .f32) :
    Keeps defs₀ (c : Thread nD τ) I (k0_part12 (F := F) i arg1 harg1 arg2 harg2 arg3 harg3 arg4 harg4 arg5 harg5 arg6 harg6 arg7 harg7 arg8 harg8 arg9 harg9 arg10 harg10 arg11 harg11 k0_t1 v3 v201 v255 v336) := by
  rw [k0_part12_eq_skeleton]
  unfold k0_part12_skel
  exact .ld O3 fun _ => .ld O10 fun _ => .st O10 fun _ => .ld O10 fun _ => .st O10 fun _ => .ld O10 fun _ =>
    .st O10 fun _ => .ld O6 fun _ => .ld O9 fun _ => .ret _

theorem part13 (k0_t1 : Fin k0_t1_loop.trips) (v3 : IVec S128x128 1) (v243 : FVec F S256x256 .f32) (v245 : FVec F S256x1 .f32) (v287 : FVec F S256x256 .f32) (v299 : FVec F S256x256 .f32) (v333 : FVec F S256x1 .f32) (v369 : FVec F S256x128 .bf16) (v370 : Vec F S256x256 .f32) :
    Keeps defs₀ (c : Thread nD τ) I (k0_part13 (F := F) i arg1 harg1 arg2 harg2 arg3 harg3 arg4 harg4 arg5 harg5 arg6 harg6 arg7 harg7 arg8 harg8 arg9 harg9 arg10 harg10 arg11 harg11 k0_t1 v3 v243 v245 v287 v299 v333 v369 v370) := by
  rw [k0_part13_eq_skeleton]
  unfold k0_part13_skel
  exact .ld O2 fun _ => .ld O3 fun _ => .ld O10 fun _ => .st O10 fun _ => .ld O10 fun _ => .st O10 fun _ =>
    .ret _

theorem part14 (k0_t1 : Fin k0_t1_loop.trips) (v3 : IVec S128x128 1) (v287 : FVec F S256x256 .f32) (v289 : FVec F S256x1 .f32) (v331 : FVec F S256x256 .f32) (v343 : FVec F S256x256 .f32) (v377 : FVec F S256x1 .f32) (v402 : FVec F S128x128 .f32) :
    Keeps defs₀ (c : Thread nD τ) I (k0_part14 (F := F) i arg1 harg1 arg2 harg2 arg3 harg3 arg4 harg4 arg5 harg5 arg6 harg6 arg7 harg7 arg8 harg8 arg9 harg9 arg10 harg10 arg11 harg11 k0_t1 v3 v287 v289 v331 v343 v377 v402) := by
  rw [k0_part14_eq_skeleton]
  unfold k0_part14_skel
  exact .ld O10 fun _ => .st O10 fun _ => .ld O6 fun _ => .ld O9 fun _ => .ld O2 fun _ => .ld O3 fun _ => .ret
    _

theorem part15 (k0_t1 : Fin k0_t1_loop.trips) (v331 : FVec F S256x256 .f32) (v375 : FVec F S256x256 .f32) (v387 : FVec F S256x256 .f32) (v421 : FVec F S256x1 .f32) (v436 : FVec F S128x128 .f32) (v443 : FVec F S128x128 .f32) (v446 : FVec F S128x128 .f32) :
    Keeps defs₀ (c : Thread nD τ) I (k0_part15 (F := F) i arg1 harg1 arg2 harg2 arg3 harg3 arg4 harg4 arg5 harg5 arg6 harg6 arg7 harg7 arg8 harg8 arg9 harg9 arg10 harg10 arg11 harg11 k0_t1 v331 v375 v387 v421 v436 v443 v446) := by
  rw [k0_part15_eq_skeleton]
  unfold k0_part15_skel
  exact .ld O10 fun _ => .st O10 fun _ => .ld O10 fun _ => .st O10 fun _ => .ld O10 fun _ => .st O10 fun _ =>
    .ld O6 fun _ => .ld O9 fun _ => .ld O2 fun _ => .ld O3 fun _ => .ret _

theorem part16 (k0_t1 : Fin k0_t1_loop.trips) (v3 : IVec S128x128 1) (v333 : FVec F S256x1 .f32) (v375 : FVec F S256x256 .f32) (v387 : FVec F S256x256 .f32) (v419 : FVec F S256x256 .f32) (v465 : FVec F S256x1 .f32) (v476 : FVec F S256x128 .f32) :
    Keeps defs₀ (c : Thread nD τ) I (k0_part16 (F := F) i arg1 harg1 arg2 harg2 arg3 harg3 arg4 harg4 arg5 harg5 arg6 harg6 arg7 harg7 arg8 harg8 arg9 harg9 arg10 harg10 arg11 harg11 k0_t1 v3 v333 v375 v387 v419 v465 v476) := by
  rw [k0_part16_eq_skeleton]
  unfold k0_part16_skel
  exact .ld O10 fun _ => .st O10 fun _ => .ld O10 fun _ => .st O10 fun _ => .ld O10 fun _ => .st O10 fun _ =>
    .ld O6 fun _ => .ld O9 fun _ => .ld O2 fun _ => .ret _

theorem part17 (k0_t1 : Fin k0_t1_loop.trips) (v3 : IVec S128x128 1) (v377 : FVec F S256x1 .f32) (v431 : FVec F S256x256 .f32) (v512 : FVec F S256x256 .f32) :
    Keeps defs₀ (c : Thread nD τ) I (k0_part17 (F := F) i arg1 harg1 arg2 harg2 arg3 harg3 arg4 harg4 arg5 harg5 arg6 harg6 arg7 harg7 arg8 harg8 arg9 harg9 arg10 harg10 arg11 harg11 k0_t1 v3 v377 v431 v512) := by
  rw [k0_part17_eq_skeleton]
  unfold k0_part17_skel
  exact .ld O3 fun _ => .ld O10 fun _ => .st O10 fun _ => .ld O10 fun _ => .st O10 fun _ => .ld O10 fun _ =>
    .st O10 fun _ => .ld O6 fun _ => .ld O9 fun _ => .ret _

theorem part18 (k0_t1 : Fin k0_t1_loop.trips) (v3 : IVec S128x128 1) (v419 : FVec F S256x256 .f32) (v421 : FVec F S256x1 .f32) (v463 : FVec F S256x256 .f32) (v475 : FVec F S256x256 .f32) (v509 : FVec F S256x1 .f32) (v545 : FVec F S256x128 .bf16) (v546 : Vec F S256x256 .f32) :
    Keeps defs₀ (c : Thread nD τ) I (k0_part18 (F := F) i arg1 harg1 arg2 harg2 arg3 harg3 arg4 harg4 arg5 harg5 arg6 harg6 arg7 harg7 arg8 harg8 arg9 harg9 arg10 harg10 arg11 harg11 k0_t1 v3 v419 v421 v463 v475 v509 v545 v546) := by
  rw [k0_part18_eq_skeleton]
  unfold k0_part18_skel
  exact .ld O2 fun _ => .ld O3 fun _ => .ld O10 fun _ => .st O10 fun _ => .ld O10 fun _ => .st O10 fun _ =>
    .ret _

theorem part19 (k0_t1 : Fin k0_t1_loop.trips) (v3 : IVec S128x128 1) (v463 : FVec F S256x256 .f32) (v465 : FVec F S256x1 .f32) (v507 : FVec F S256x256 .f32) (v519 : FVec F S256x256 .f32) (v553 : FVec F S256x1 .f32) (v578 : FVec F S128x128 .f32) :
    Keeps defs₀ (c : Thread nD τ) I (k0_part19 (F := F) i arg1 harg1 arg2 harg2 arg3 harg3 arg4 harg4 arg5 harg5 arg6 harg6 arg7 harg7 arg8 harg8 arg9 harg9 arg10 harg10 arg11 harg11 k0_t1 v3 v463 v465 v507 v519 v553 v578) := by
  rw [k0_part19_eq_skeleton]
  unfold k0_part19_skel
  exact .ld O10 fun _ => .st O10 fun _ => .ld O6 fun _ => .ld O9 fun _ => .ld O2 fun _ => .ld O3 fun _ => .ret
    _

theorem part20 (k0_t1 : Fin k0_t1_loop.trips) (v3 : IVec S128x128 1) (v507 : FVec F S256x256 .f32) (v509 : FVec F S256x1 .f32) (v551 : FVec F S256x256 .f32) (v563 : FVec F S256x256 .f32) (v597 : FVec F S256x1 .f32) (v612 : FVec F S128x128 .f32) (v619 : FVec F S128x128 .f32) (v622 : FVec F S128x128 .f32) :
    Keeps defs₀ (c : Thread nD τ) I (k0_part20 (F := F) i arg1 harg1 arg2 harg2 arg3 harg3 arg4 harg4 arg5 harg5 arg6 harg6 arg7 harg7 arg8 harg8 arg9 harg9 arg10 harg10 arg11 harg11 k0_t1 v3 v507 v509 v551 v563 v597 v612 v619 v622) := by
  rw [k0_part20_eq_skeleton]
  unfold k0_part20_skel
  exact .ld O10 fun _ => .st O10 fun _ => .ld O10 fun _ => .st O10 fun _ => .ld O10 fun _ => .st O10 fun _ =>
    .ld O3 fun _ => .ld O10 fun _ => .ret _

theorem part21 (k0_t1 : Fin k0_t1_loop.trips) (v3 : IVec S128x128 1) (v551 : FVec F S256x256 .f32) (v553 : FVec F S256x1 .f32) (v595 : FVec F S256x256 .f32) (v607 : FVec F S256x256 .f32) (v633 : FVec F S256x1 .f32) (v648 : FVec F S128x128 .f32) (v655 : FVec F S128x128 .f32) (v658 : FVec F S128x128 .f32) :
    Keeps defs₀ (c : Thread nD τ) I (k0_part21 (F := F) i arg1 harg1 arg2 harg2 arg3 harg3 arg4 harg4 arg5 harg5 arg6 harg6 arg7 harg7 arg8 harg8 arg9 harg9 arg10 harg10 arg11 harg11 k0_t1 v3 v551 v553 v595 v607 v633 v648 v655 v658) := by
  rw [k0_part21_eq_skeleton]
  unfold k0_part21_skel
  exact .st O10 fun _ => .ld O10 fun _ => .st O10 fun _ => .ld O10 fun _ => .st O10 fun _ => .ld O3 fun _ =>
    .ld O10 fun _ => .st O10 fun _ => .ret _

theorem part22 (k0_t1 : Fin k0_t1_loop.trips) (v3 : IVec S128x128 1) (v595 : FVec F S256x256 .f32) (v597 : FVec F S256x1 .f32) (v643 : FVec F S256x256 .f32) (v669 : FVec F S256x1 .f32) (v691 : FVec F S128x128 .f32) (v694 : FVec F S128x128 .f32) :
    Keeps defs₀ (c : Thread nD τ) I (k0_part22 (F := F) i arg1 harg1 arg2 harg2 arg3 harg3 arg4 harg4 arg5 harg5 arg6 harg6 arg7 harg7 arg8 harg8 arg9 harg9 arg10 harg10 arg11 harg11 k0_t1 v3 v595 v597 v643 v669 v691 v694) := by
  rw [k0_part22_eq_skeleton]
  unfold k0_part22_skel
  exact .ld O10 fun _ => .st O10 fun _ => .ld O10 fun _ => .st O10 fun _ => .ld O3 fun _ => .ld O10 fun _ =>
    .st O10 fun _ => .ld O10 fun _ => .st O10 fun _ => .ret _

theorem part23 (v3 : IVec S128x128 1) (v633 : FVec F S256x1 .f32) (v669 : FVec F S256x1 .f32) (v679 : FVec F S256x256 .f32) (v713 : FVec F S256x256 .f32) (v728 : FVec F S128x128 .f32) :
    Keeps defs₀ (c : Thread nD τ) I (k0_part23 (F := F) i arg1 harg1 arg2 harg2 arg3 harg3 arg4 harg4 arg5 harg5 arg6 harg6 arg7 harg7 arg8 harg8 arg9 harg9 arg10 harg10 arg11 harg11 v3 v633 v669 v679 v713 v728) := by
  rw [k0_part23_eq_skeleton]
  unfold k0_part23_skel
  exact .ld O10 fun _ => .st O10 fun _ => .ld O10 fun _ => .st O10 fun _ => .ld O10 fun _ => .st O10 fun _ =>
    .ld O10 fun _ => .st O10 fun _ => .ld O10 fun _ => .ret _

theorem part24 (v33 : IVec S256x256 32) (v46 : FVec F S256x256 .f32) (v766 : FVec F S128x128 .f32) (v773 : FVec F S128x128 .f32) (v776 : FVec F S128x128 .f32) (v777 : Vec F S1x128x128 .f32) :
    Keeps defs₀ (c : Thread nD τ) I (k0_part24 (F := F) i arg1 harg1 arg2 harg2 arg3 harg3 arg4 harg4 arg5 harg5 arg6 harg6 arg7 harg7 arg8 harg8 arg9 harg9 arg10 harg10 arg11 harg11 v33 v46 v766 v773 v776 v777) := by
  rw [k0_part24_eq_skeleton]
  unfold k0_part24_skel
  exact .st O10 fun _ => .ld O10 fun _ => .st O10 fun _ => .ld O10 fun _ => .st O10 fun _ => .ld O9 fun _ =>
    .st O9 fun _ => .ld O5 fun _ => .ld O5 fun _ => .ld O5 fun _ => .ret _

theorem part25 (v804 : IVec S512x128 1) (v806 : FVec F S512x128 .f32) (v808 : FVec F S512x128 .f32) (v810 : FVec F S512x128 .f32) :
    Keeps defs₀ (c : Thread nD τ) I (k0_part25 (F := F) i arg1 harg1 arg2 harg2 arg3 harg3 arg4 harg4 arg5 harg5 arg6 harg6 arg7 harg7 arg8 harg8 arg9 harg9 arg10 harg10 arg11 harg11 v804 v806 v808 v810) := by
  rw [k0_part25_eq_skeleton]
  unfold k0_part25_skel
  exact .ld O5 fun _ => .st O5 fun _ => .ld O5 fun _ => .st O5 fun _ => .ld O5 fun _ => .st O5 fun _ => .ld O6
    fun _ => .st O6 fun _ => .ld O6 fun _ => .st O6 fun _ => .ld O7 fun _ => .st O7 fun _ => .ld O8 fun _ =>
    .st O8 fun _ => .ret _

theorem part26 (v804 : IVec S512x128 1) :
    Keeps defs₀ (c : Thread nD τ) I (k0_part26 (F := F) i arg1 harg1 arg2 harg2 arg3 harg3 arg4 harg4 arg5 harg5 arg6 harg6 arg7 harg7 arg8 harg8 arg9 harg9 arg10 harg10 arg11 harg11 v804) := by
  rw [k0_part26_eq_skeleton]
  unfold k0_part26_skel
  exact .ld O5 fun _ => .ld O5 fun _ => .ld O5 fun _ => .ld O5 fun _ => .st O5 fun _ => .ld O5 fun _ => .st O5
    fun _ => .ld O5 fun _ => .st O5 fun _ => .ld O6 fun _ => .st O6 fun _ => .ld O6 fun _ => .st O6 fun _ =>
    .ld O7 fun _ => .ret _

theorem part27 (v804 : IVec S512x128 1) (v845 : FVec F S512x128 .f32) (v867 : FVec F S512x128 .bf16) :
    Keeps defs₀ (c : Thread nD τ) I (k0_part27 (F := F) i arg1 harg1 arg2 harg2 arg3 harg3 arg4 harg4 arg5 harg5 arg6 harg6 arg7 harg7 arg8 harg8 arg9 harg9 arg10 harg10 arg11 harg11 v804 v845 v867) := by
  rw [k0_part27_eq_skeleton]
  unfold k0_part27_skel
  exact .st O7 fun _ => .ld O8 fun _ => .st O8 fun _ => .ld O5 fun _ => .ld O5 fun _ => .ld O5 fun _ => .ld O5
    fun _ => .st O5 fun _ => .ld O5 fun _ => .st O5 fun _ => .ld O5 fun _ => .st O5 fun _ => .ld O6 fun _ =>
    .st O6 fun _ => .ret _

theorem part28 (v804 : IVec S512x128 1) (v878 : FVec F S512x128 .f32) (v880 : FVec F S512x128 .f32) (v898 : FVec F S512x128 .bf16) :
    Keeps defs₀ (c : Thread nD τ) I (k0_part28 (F := F) i arg1 harg1 arg2 harg2 arg3 harg3 arg4 harg4 arg5 harg5 arg6 harg6 arg7 harg7 arg8 harg8 arg9 harg9 arg10 harg10 arg11 harg11 v804 v878 v880 v898) := by
  rw [k0_part28_eq_skeleton]
  unfold k0_part28_skel
  exact .ld O6 fun _ => .st O6 fun _ => .ld O7 fun _ => .st O7 fun _ => .ld O8 fun _ => .st O8 fun _ => .ld O5
    fun _ => .ld O5 fun _ => .ld O5 fun _ => .ld O5 fun _ => .st O5 fun _ => .ld O5 fun _ => .st O5 fun _ =>
    .ld O5 fun _ => .st O5 fun _ => .ret _

theorem part29 (v804 : IVec S512x128 1) (v911 : FVec F S512x128 .f32) (v913 : FVec F S512x128 .f32) (v915 : FVec F S512x128 .f32) (v926 : FVec F S512x128 .f32) :
    Keeps defs₀ (c : Thread nD τ) I (k0_part29 (F := F) i arg1 harg1 arg2 harg2 arg3 harg3 arg4 harg4 arg5 harg5 arg6 harg6 arg7 harg7 arg8 harg8 arg9 harg9 arg10 harg10 arg11 harg11 v804 v911 v913 v915 v926) := by
  rw [k0_part29_eq_skeleton]
  unfold k0_part29_skel
  exact .ld O6 fun _ => .st O6 fun _ => .ld O6 fun _ => .st O6 fun _ => .ld O7 fun _ => .st O7 fun _ => .ld O8
    fun _ => .st O8 fun _ => .ld O6 fun _ => .ld O9 fun _ => .ld O7 fun _ => .ld O6 fun _ => .ld O9 fun _ =>
    .ld O7 fun _ => .ret _

theorem part30 (v950 : FVec F S256x128 .f32) (v953 : Vec F S256x256 .f32) (v955 : FVec F S256x256 .f32) :
    Keeps defs₀ (c : Thread nD τ) I (k0_part30 (F := F) i arg1 harg1 arg2 harg2 arg3 harg3 arg4 harg4 arg5 harg5 arg6 harg6 arg7 harg7 arg8 harg8 arg9 harg9 arg10 harg10 arg11 harg11 v950 v953 v955) := by
  rw [k0_part30_eq_skeleton]
  unfold k0_part30_skel
  exact .ld O6 fun _ => .ld O9 fun _ => .ld O7 fun _ => .ld O6 fun _ => .ld O9 fun _ => .ld O7 fun _ => .ld O8
    fun _ => .ld O6 fun _ => .ld O9 fun _ => .ld O7 fun _ => .ret _

theorem part31 (v3 : IVec S128x128 1) (v956 : FVec F S256x256 .f32) (v962 : FVec F S256x256 .f32) (v964 : FVec F S256x1 .f32) (v970 : FVec F S256x256 .f32) (v972 : FVec F S256x1 .f32) (v980 : FVec F S256x256 .f32) (v983 : Vec F S256x128 .f32) (v985 : FVec F S256x128 .f32) :
    Keeps defs₀ (c : Thread nD τ) I (k0_part31 (F := F) i arg1 harg1 arg2 harg2 arg3 harg3 arg4 harg4 arg5 harg5 arg6 harg6 arg7 harg7 arg8 harg8 arg9 harg9 arg10 harg10 arg11 harg11 v3 v956 v962 v964 v970 v972 v980 v983 v985) := by
  rw [k0_part31_eq_skeleton]
  unfold k0_part31_skel
  exact .ld O8 fun _ => .ld O6 fun _ => .ld O9 fun _ => .ld O7 fun _ => .ld O8 fun _ => .ret _

theorem part32 (v3 : IVec S128x128 1) (v970 : FVec F S256x256 .f32) (v972 : FVec F S256x1 .f32) (v986 : FVec F S256x128 .f32) (v996 : FVec F S256x256 .f32) (v1004 : FVec F S256x1 .f32) (v1017 : FVec F S128x128 .f32) (v1024 : FVec F S128x128 .f32) (v1027 : FVec F S128x128 .f32) :
    Keeps defs₀ (c : Thread nD τ) I (k0_part32 (F := F) i arg1 harg1 arg2 harg2 arg3 harg3 arg4 harg4 arg5 harg5 arg6 harg6 arg7 harg7 arg8 harg8 arg9 harg9 arg10 harg10 arg11 harg11 v3 v970 v972 v986 v996 v1004 v1017 v1024 v1027) := by
  rw [k0_part32_eq_skeleton]
  unfold k0_part32_skel
  exact .ld O10 fun _ => .st O10 fun _ => .ld O10 fun _ => .st O10 fun _ => .ld O10 fun _ => .st O10 fun _ =>
    .ld O6 fun _ => .ld O9 fun _ => .ld O7 fun _ => .ld O8 fun _ => .ret _

theorem part33 (v3 : IVec S128x128 1) (v986 : FVec F S256x128 .f32) (v1002 : FVec F S256x256 .f32) (v1012 : FVec F S256x256 .f32) (v1044 : FVec F S256x1 .f32) (v1054 : FVec F S256x128 .f32) (v1057 : FVec F S128x128 .f32) (v1061 : FVec F S128x128 .f32) (v1062 : FVec F S128x1 .f32) :
    Keeps defs₀ (c : Thread nD τ) I (k0_part33 (F := F) i arg1 harg1 arg2 harg2 arg3 harg3 arg4 harg4 arg5 harg5 arg6 harg6 arg7 harg7 arg8 harg8 arg9 harg9 arg10 harg10 arg11 harg11 v3 v986 v1002 v1012 v1044 v1054 v1057 v1061 v1062) := by
  rw [k0_part33_eq_skeleton]
  unfold k0_part33_skel
  exact .ld O10 fun _ => .st O10 fun _ => .ld O10 fun _ => .st O10 fun _ => .ld O10 fun _ => .st O10 fun _ =>
    .ld O6 fun _ => .ld O9 fun _ => .ld O7 fun _ => .ld O8 fun _ => .ret _

theorem part34 (v3 : IVec S128x128 1) (v988 : FVec F S256x1 .f32) (v1002 : FVec F S256x256 .f32) (v1042 : FVec F S256x256 .f32) (v1084 : FVec F S256x1 .f32) (v1094 : FVec F S256x128 .f32) (v1097 : FVec F S128x128 .f32) :
    Keeps defs₀ (c : Thread nD τ) I (k0_part34 (F := F) i arg1 harg1 arg2 harg2 arg3 harg3 arg4 harg4 arg5 harg5 arg6 harg6 arg7 harg7 arg8 harg8 arg9 harg9 arg10 harg10 arg11 harg11 v3 v988 v1002 v1042 v1084 v1094 v1097) := by
  rw [k0_part34_eq_skeleton]
  unfold k0_part34_skel
  exact .ld O10 fun _ => .st O10 fun _ => .ld O10 fun _ => .st O10 fun _ => .ld O10 fun _ => .st O10 fun _ =>
    .ld O6 fun _ => .ld O9 fun _ => .ld O7 fun _ => .ld O8 fun _ => .ret _

theorem part35 (v3 : IVec S128x128 1) (v1004 : FVec F S256x1 .f32) (v1042 : FVec F S256x256 .f32) (v1052 : FVec F S256x256 .f32) (v1082 : FVec F S256x256 .f32) (v1124 : FVec F S256x1 .f32) :
    Keeps defs₀ (c : Thread nD τ) I (k0_part35 (F := F) i arg1 harg1 arg2 harg2 arg3 harg3 arg4 harg4 arg5 harg5 arg6 harg6 arg7 harg7 arg8 harg8 arg9 harg9 arg10 harg10 arg11 harg11 v3 v1004 v1042 v1052 v1082 v1124) := by
  rw [k0_part35_eq_skeleton]
  unfold k0_part35_skel
  exact .ld O10 fun _ => .st O10 fun _ => .ld O10 fun _ => .st O10 fun _ => .ld O10 fun _ => .st O10 fun _ =>
    .ld O6 fun _ => .ld O9 fun _ => .ld O7 fun _ => .ld O8 fun _ => .ret _

theorem part36 (v3 : IVec S128x128 1) (v1044 : FVec F S256x1 .f32) (v1082 : FVec F S256x256 .f32) (v1092 : FVec F S256x256 .f32) (v1122 : FVec F S256x128 .f32) (v1164 : FVec F S256x1 .f32) (v1168 : FVec F S256x256 .bf16) (v1169 : Vec F S256x128 .bf16) :
    Keeps defs₀ (c : Thread nD τ) I (k0_part36 (F := F) i arg1 harg1 arg2 harg2 arg3 harg3 arg4 harg4 arg5 harg5 arg6 harg6 arg7 harg7 arg8 harg8 arg9 harg9 arg10 harg10 arg11 harg11 v3 v1044 v1082 v1092 v1122 v1164 v1168 v1169) := by
  rw [k0_part36_eq_skeleton]
  unfold k0_part36_skel
  exact .ld O10 fun _ => .st O10 fun _ => .ld O10 fun _ => .st O10 fun _ => .ld O10 fun _ => .st O10 fun _ =>
    .ld O6 fun _ => .ld O9 fun _ => .ld O7 fun _ => .ret _

theorem part37 (v3 : IVec S128x128 1) (v1084 : FVec F S256x1 .f32) (v1132 : FVec F S256x256 .f32) (v1206 : FVec F S256x256 .f32) :
    Keeps defs₀ (c : Thread nD τ) I (k0_part37 (F := F) i arg1 harg1 arg2 harg2 arg3 harg3 arg4 harg4 arg5 harg5 arg6 harg6 arg7 harg7 arg8 harg8 arg9 harg9 arg10 harg10 arg11 harg11 v3 v1084 v1132 v1206) := by
  rw [k0_part37_eq_skeleton]
  unfold k0_part37_skel
  exact .ld O8 fun _ => .ld O10 fun _ => .st O10 fun _ => .ld O10 fun _ => .st O10 fun _ => .ld O10 fun _ =>
    .st O10 fun _ => .ld O6 fun _ => .ld O9 fun _ => .ld O7 fun _ => .ret _

theorem part38 (v3 : IVec S128x128 1) (v1122 : FVec F S256x128 .f32) (v1124 : FVec F S256x1 .f32) (v1162 : FVec F S256x256 .f32) (v1172 : FVec F S256x256 .f32) (v1204 : FVec F S256x1 .f32) :
    Keeps defs₀ (c : Thread nD τ) I (k0_part38 (F := F) i arg1 harg1 arg2 harg2 arg3 harg3 arg4 harg4 arg5 harg5 arg6 harg6 arg7 harg7 arg8 harg8 arg9 harg9 arg10 harg10 arg11 harg11 v3 v1122 v1124 v1162 v1172 v1204) := by
  rw [k0_part38_eq_skeleton]
  unfold k0_part38_skel
  exact .ld O8 fun _ => .ld O10 fun _ => .st O10 fun _ => .ld O10 fun _ => .st O10 fun _ => .ld O10 fun _ =>
    .st O10 fun _ => .ld O6 fun _ => .ld O9 fun _ => .ret _

theorem part39 (v3 : IVec S128x128 1) (v1162 : FVec F S256x256 .f32) (v1164 : FVec F S256x1 .f32) (v1202 : FVec F S256x256 .f32) (v1212 : FVec F S256x256 .f32) (v1244 : FVec F S256x1 .f32) (v1278 : FVec F S256x128 .bf16) (v1279 : Vec F S256x128 .f32) :
    Keeps defs₀ (c : Thread nD τ) I (k0_part39 (F := F) i arg1 harg1 arg2 harg2 arg3 harg3 arg4 harg4 arg5 harg5 arg6 harg6 arg7 harg7 arg8 harg8 arg9 harg9 arg10 harg10 arg11 harg11 v3 v1162 v1164 v1202 v1212 v1244 v1278 v1279) := by
  rw [k0_part39_eq_skeleton]
  unfold k0_part39_skel
  exact .ld O7 fun _ => .ld O8 fun _ => .ld O10 fun _ => .st O10 fun _ => .ld O10 fun _ => .st O10 fun _ =>
    .ld O10 fun _ => .st O10 fun _ => .ld O6 fun _ => .ret _

theorem part40 (v3 : IVec S128x128 1) (v1202 : FVec F S256x256 .f32) (v1204 : FVec F S256x1 .f32) (v1242 : FVec F S256x256 .f32) (v1252 : FVec F S256x256 .f32) (v1284 : FVec F S256x1 .f32) (v1317 : Vec F S2x128x128 .bf16) :
    Keeps defs₀ (c : Thread nD τ) I (k0_part40 (F := F) i arg1 harg1 arg2 harg2 arg3 harg3 arg4 harg4 arg5 harg5 arg6 harg6 arg7 harg7 arg8 harg8 arg9 harg9 arg10 harg10 arg11 harg11 v3 v1202 v1204 v1242 v1252 v1284 v1317) := by
  rw [k0_part40_eq_skeleton]
  unfold k0_part40_skel
  exact .ld O9 fun _ => .ld O7 fun _ => .ld O8 fun _ => .ld O10 fun _ => .st O10 fun _ => .ld O10 fun _ => .st
    O10 fun _ => .ld O10 fun _ => .ret _

theorem part41 (v3 : IVec S128x128 1) (v1242 : FVec F S256x256 .f32) (v1244 : FVec F S256x1 .f32) (v1282 : FVec F S256x128 .f32) (v1292 : FVec F S256x256 .f32) (v1324 : FVec F S256x1 .f32) (v1356 : FVec F S1x128x128 .f32) :
    Keeps defs₀ (c : Thread nD τ) I (k0_part41 (F := F) i arg1 harg1 arg2 harg2 arg3 harg3 arg4 harg4 arg5 harg5 arg6 harg6 arg7 harg7 arg8 harg8 arg9 harg9 arg10 harg10 arg11 harg11 v3 v1242 v1244 v1282 v1292 v1324 v1356) := by
  rw [k0_part41_eq_skeleton]
  unfold k0_part41_skel
  exact .st O10 fun _ => .ld O6 fun _ => .ld O9 fun _ => .ld O7 fun _ => .ld O8 fun _ => .ld O10 fun _ => .st
    O10 fun _ => .ld O10 fun _ => .st O10 fun _ => .ret _

theorem part42 (v3 : IVec S128x128 1) (v1282 : FVec F S256x128 .f32) (v1284 : FVec F S256x1 .f32) (v1322 : FVec F S256x256 .f32) (v1332 : FVec F S256x256 .f32) (v1364 : FVec F S256x1 .f32) (v1387 : FVec F S128x128 .f32) :
    Keeps defs₀ (c : Thread nD τ) I (k0_part42 (F := F) i arg1 harg1 arg2 harg2 arg3 harg3 arg4 harg4 arg5 harg5 arg6 harg6 arg7 harg7 arg8 harg8 arg9 harg9 arg10 harg10 arg11 harg11 v3 v1282 v1284 v1322 v1332 v1364 v1387) := by
  rw [k0_part42_eq_skeleton]
  unfold k0_part42_skel
  exact .ld O10 fun _ => .st O10 fun _ => .ld O6 fun _ => .ld O9 fun _ => .ld O7 fun _ => .ld O8 fun _ => .ld
    O10 fun _ => .st O10 fun _ => .ret _

theorem part43 (v3 : IVec S128x128 1) (v1322 : FVec F S256x256 .f32) (v1324 : FVec F S256x1 .f32) (v1362 : FVec F S256x256 .f32) (v1372 : FVec F S256x256 .f32) (v1404 : FVec F S256x1 .f32) (v1424 : FVec F S128x128 .f32) (v1427 : FVec F S128x128 .f32) :
    Keeps defs₀ (c : Thread nD τ) I (k0_part43 (F := F) i arg1 harg1 arg2 harg2 arg3 harg3 arg4 harg4 arg5 harg5 arg6 harg6 arg7 harg7 arg8 harg8 arg9 harg9 arg10 harg10 arg11 harg11 v3 v1322 v1324 v1362 v1372 v1404 v1424 v1427) := by
  rw [k0_part43_eq_skeleton]
  unfold k0_part43_skel
  exact .ld O10 fun _ => .st O10 fun _ => .ld O10 fun _ => .st O10 fun _ => .ld O8 fun _ => .ld O10 fun _ =>
    .st O10 fun _ => .ld O10 fun _ => .st O10 fun _ => .ld O10 fun _ => .ret _

theorem part44 (v3 : IVec S128x128 1) (v1362 : FVec F S256x256 .f32) (v1364 : FVec F S256x1 .f32) (v1402 : FVec F S256x256 .f32) (v1412 : FVec F S256x256 .f32) (v1438 : FVec F S256x1 .f32) (v1461 : FVec F S128x128 .f32) :
    Keeps defs₀ (c : Thread nD τ) I (k0_part44 (F := F) i arg1 harg1 arg2 harg2 arg3 harg3 arg4 harg4 arg5 harg5 arg6 harg6 arg7 harg7 arg8 harg8 arg9 harg9 arg10 harg10 arg11 harg11 v3 v1362 v1364 v1402 v1412 v1438 v1461) := by
  rw [k0_part44_eq_skeleton]
  unfold k0_part44_skel
  exact .st O10 fun _ => .ld O8 fun _ => .ld O10 fun _ => .st O10 fun _ => .ld O10 fun _ => .st O10 fun _ =>
    .ld O10 fun _ => .st O10 fun _ => .ld O8 fun _ => .ret _

theorem part45 (v3 : IVec S128x128 1) (v1404 : FVec F S256x1 .f32) (v1438 : FVec F S256x1 .f32) (v1446 : FVec F S256x256 .f32) (v1480 : FVec F S256x256 .f32) (v1508 : FVec F S256x256 .bf16) (v1509 : Vec F S256x128 .bf16) :
    Keeps defs₀ (c : Thread nD τ) I (k0_part45 (F := F) i arg1 harg1 arg2 harg2 arg3 harg3 arg4 harg4 arg5 harg5 arg6 harg6 arg7 harg7 arg8 harg8 arg9 harg9 arg10 harg10 arg11 harg11 v3 v1404 v1438 v1446 v1480 v1508 v1509) := by
  rw [k0_part45_eq_skeleton]
  unfold k0_part45_skel
  exact .ld O10 fun _ => .st O10 fun _ => .ld O10 fun _ => .st O10 fun _ => .ld O10 fun _ => .st O10 fun _ =>
    .ld O10 fun _ => .ret _

theorem part46 (v3 : IVec S128x128 1) (v33 : IVec S256x256 32) (v1472 : FVec F S256x1 .f32) (v1512 : FVec F S256x256 .f32) (v1541 : FVec F S128x128 .f32) (v1548 : FVec F S128x128 .f32) (v1551 : FVec F S128x128 .f32) (v1552 : Vec F S1x128x128 .f32) :
    Keeps defs₀ (c : Thread nD τ) I (k0_part46 (F := F) i arg1 harg1 arg2 harg2 arg3 harg3 arg4 harg4 arg5 harg5 arg6 harg6 arg7 harg7 arg8 harg8 arg9 harg9 arg10 harg10 arg11 harg11 v3 v33 v1472 v1512 v1541 v1548 v1551 v1552) := by
  rw [k0_part46_eq_skeleton]
  unfold k0_part46_skel
  exact .st O10 fun _ => .ld O10 fun _ => .st O10 fun _ => .ld O10 fun _ => .st O10 fun _ => .ld O10 fun _ =>
    .st O10 fun _ => .ld O10 fun _ => .st O10 fun _ => .ld O10 fun _ => .st O10 fun _ => .ret _

theorem part47 (v33 : IVec S256x256 32) (v46 : FVec F S256x256 .f32) (v1589 : IVec S256x256 1) :
    Keeps defs₀ (c : Thread nD τ) I (k0_part47 (F := F) i arg1 harg1 arg2 harg2 arg3 harg3 arg4 harg4 arg5 harg5 arg6 harg6 arg7 harg7 arg8 harg8 arg9 harg9 arg10 harg10 arg11 harg11 v33 v46 v1589) := by
  rw [k0_part47_eq_skeleton]
  unfold k0_part47_skel
  exact .ld O9 fun _ => .st O9 fun _ => .ld O5 fun _ => .ld O5 fun _ => .ld O5 fun _ => .ld O6 fun _ => .st O6
    fun _ => .ld O6 fun _ => .st O6 fun _ => .ret _

theorem part48 (v1603 : IVec S128x128 1) (v1609 : FVec F S128x128 .f32) (v1622 : FVec F S128x128 .bf16) :
    Keeps defs₀ (c : Thread nD τ) I (k0_part48 (F := F) i arg1 harg1 arg2 harg2 arg3 harg3 arg4 harg4 arg5 harg5 arg6 harg6 arg7 harg7 arg8 harg8 arg9 harg9 arg10 harg10 arg11 harg11 v1603 v1609 v1622) := by
  rw [k0_part48_eq_skeleton]
  unfold k0_part48_skel
  exact .ld O7 fun _ => .st O7 fun _ => .ld O8 fun _ => .st O8 fun _ => .ld O5 fun _ => .ld O5 fun _ => .ld O5
    fun _ => .ld O6 fun _ => .st O6 fun _ => .ld O6 fun _ => .st O6 fun _ => .ld O7 fun _ => .st O7 fun _ =>
    .ld O8 fun _ => .ret _

theorem part49 (v1603 : IVec S128x128 1) (v1652 : FVec F S128x128 .bf16) (v1653 : Vec F S128x128 .bf16) :
    Keeps defs₀ (c : Thread nD τ) I (k0_part49 (F := F) i arg1 harg1 arg2 harg2 arg3 harg3 arg4 harg4 arg5 harg5 arg6 harg6 arg7 harg7 arg8 harg8 arg9 harg9 arg10 harg10 arg11 harg11 v1603 v1652 v1653) := by
  rw [k0_part49_eq_skeleton]
  unfold k0_part49_skel
  exact .st O8 fun _ => .ld O5 fun _ => .ld O5 fun _ => .ld O5 fun _ => .ld O6 fun _ => .st O6 fun _ => .ld O6
    fun _ => .st O6 fun _ => .ld O7 fun _ => .st O7 fun _ => .ld O8 fun _ => .st O8 fun _ => .ld O5 fun _ =>
    .ret _

theorem part50 (v1603 : IVec S128x128 1) (v1683 : FVec F S128x128 .f32) :
    Keeps defs₀ (c : Thread nD τ) I (k0_part50 (F := F) i arg1 harg1 arg2 harg2 arg3 harg3 arg4 harg4 arg5 harg5 arg6 harg6 arg7 harg7 arg8 harg8 arg9 harg9 arg10 harg10 arg11 harg11 v1603 v1683) := by
  rw [k0_part50_eq_skeleton]
  unfold k0_part50_skel
  exact .ld O5 fun _ => .ld O5 fun _ => .ld O6 fun _ => .st O6 fun _ => .ld O6 fun _ => .st O6 fun _ => .ld O7
    fun _ => .st O7 fun _ => .ld O8 fun _ => .st O8 fun _ => .ld O5 fun _ => .ld O5 fun _ => .ld O5 fun _ =>
    .ret _

theorem part51 (v1603 : IVec S128x128 1) (v1709 : FVec F S128x128 .f32) (v1711 : FVec F S128x128 .f32) (v1713 : FVec F S128x128 .f32) :
    Keeps defs₀ (c : Thread nD τ) I (k0_part51 (F := F) i arg1 harg1 arg2 harg2 arg3 harg3 arg4 harg4 arg5 harg5 arg6 harg6 arg7 harg7 arg8 harg8 arg9 harg9 arg10 harg10 arg11 harg11 v1603 v1709 v1711 v1713) := by
  rw [k0_part51_eq_skeleton]
  unfold k0_part51_skel
  exact .ld O6 fun _ => .st O6 fun _ => .ld O6 fun _ => .st O6 fun _ => .ld O7 fun _ => .st O7 fun _ => .ld O8
    fun _ => .st O8 fun _ => .ld O5 fun _ => .ld O5 fun _ => .ld O5 fun _ => .ld O6 fun _ => .ret _

theorem part52 (v1603 : IVec S128x128 1) (v1735 : FVec F S128x128 .f32) (v1737 : FVec F S128x128 .f32) (v1739 : FVec F S128x128 .f32) (v1742 : FVec F S128x128 .bf16) :
    Keeps defs₀ (c : Thread nD τ) I (k0_part52 (F := F) i arg1 harg1 arg2 harg2 arg3 harg3 arg4 harg4 arg5 harg5 arg6 harg6 arg7 harg7 arg8 harg8 arg9 harg9 arg10 harg10 arg11 harg11 v1603 v1735 v1737 v1739 v1742) := by
  rw [k0_part52_eq_skeleton]
  unfold k0_part52_skel
  exact .st O6 fun _ => .ld O6 fun _ => .st O6 fun _ => .ld O7 fun _ => .st O7 fun _ => .ld O8 fun _ => .st O8
    fun _ => .ld O5 fun _ => .ld O5 fun _ => .ld O5 fun _ => .ld O6 fun _ => .st O6 fun _ => .ret _

theorem part53 (v1603 : IVec S128x128 1) (v1763 : FVec F S128x128 .f32) (v1765 : FVec F S128x128 .f32) (v1774 : FVec F S128x128 .bf16) :
    Keeps defs₀ (c : Thread nD τ) I (k0_part53 (F := F) i arg1 harg1 arg2 harg2 arg3 harg3 arg4 harg4 arg5 harg5 arg6 harg6 arg7 harg7 arg8 harg8 arg9 harg9 arg10 harg10 arg11 harg11 v1603 v1763 v1765 v1774) := by
  rw [k0_part53_eq_skeleton]
  unfold k0_part53_skel
  exact .ld O6 fun _ => .st O6 fun _ => .ld O7 fun _ => .st O7 fun _ => .ld O8 fun _ => .st O8 fun _ => .ld O5
    fun _ => .ld O5 fun _ => .ld O5 fun _ => .ld O6 fun _ => .st O6 fun _ => .ld O6 fun _ => .st O6 fun _ =>
    .ld O7 fun _ => .ret _

theorem part54 (v1603 : IVec S128x128 1) (v1791 : FVec F S128x128 .f32) (v1804 : FVec F S128x128 .bf16) :
    Keeps defs₀ (c : Thread nD τ) I (k0_part54 (F := F) i arg1 harg1 arg2 harg2 arg3 harg3 arg4 harg4 arg5 harg5 arg6 harg6 arg7 harg7 arg8 harg8 arg9 harg9 arg10 harg10 arg11 harg11 v1603 v1791 v1804) := by
  rw [k0_part54_eq_skeleton]
  unfold k0_part54_skel
  exact .st O7 fun _ => .ld O8 fun _ => .st O8 fun _ => .ld O5 fun _ => .ld O5 fun _ => .ld O5 fun _ => .ld O6
    fun _ => .st O6 fun _ => .ld O6 fun _ => .st O6 fun _ => .ld O7 fun _ => .st O7 fun _ => .ld O8 fun _ =>
    .st O8 fun _ => .ret _

theorem part55 (v1603 : IVec S128x128 1) :
    Keeps defs₀ (c : Thread nD τ) I (k0_part55 (F := F) i arg1 harg1 arg2 harg2 arg3 harg3 arg4 harg4 arg5 harg5 arg6 harg6 arg7 harg7 arg8 harg8 arg9 harg9 arg10 harg10 arg11 harg11 v1603) := by
  rw [k0_part55_eq_skeleton]
  unfold k0_part55_skel
  exact .ld O5 fun _ => .ld O5 fun _ => .ld O5 fun _ => .ld O6 fun _ => .st O6 fun _ => .ld O6 fun _ => .st O6
    fun _ => .ld O7 fun _ => .st O7 fun _ => .ld O8 fun _ => .st O8 fun _ => .ld O5 fun _ => .ld O5 fun _ =>
    .ret _

theorem part56 (v1603 : IVec S128x128 1) (v1865 : FVec F S128x128 .f32) (v1866 : Vec F S1x128x128 .f32) :
    Keeps defs₀ (c : Thread nD τ) I (k0_part56 (F := F) i arg1 harg1 arg2 harg2 arg3 harg3 arg4 harg4 arg5 harg5 arg6 harg6 arg7 harg7 arg8 harg8 arg9 harg9 arg10 harg10 arg11 harg11 v1603 v1865 v1866) := by
  rw [k0_part56_eq_skeleton]
  unfold k0_part56_skel
  exact .ld O5 fun _ => .ld O6 fun _ => .st O6 fun _ => .ld O6 fun _ => .st O6 fun _ => .ld O7 fun _ => .st O7
    fun _ => .ld O8 fun _ => .st O8 fun _ => .ld O5 fun _ => .ld O5 fun _ => .ld O5 fun _ => .ret _

theorem part57 (v1603 : IVec S128x128 1) (v1891 : FVec F S128x128 .f32) (v1893 : FVec F S128x128 .f32) (v1895 : FVec F S128x128 .f32) (v1897 : FVec F S128x128 .f32) :
    Keeps defs₀ (c : Thread nD τ) I (k0_part57 (F := F) i arg1 harg1 arg2 harg2 arg3 harg3 arg4 harg4 arg5 harg5 arg6 harg6 arg7 harg7 arg8 harg8 arg9 harg9 arg10 harg10 arg11 harg11 v1603 v1891 v1893 v1895 v1897) := by
  rw [k0_part57_eq_skeleton]
  unfold k0_part57_skel
  exact .ld O6 fun _ => .st O6 fun _ => .ld O6 fun _ => .st O6 fun _ => .ld O7 fun _ => .st O7 fun _ => .ld O8
    fun _ => .st O8 fun _ => .ld O5 fun _ => .ld O5 fun _ => .ld O5 fun _ => .ld O6 fun _ => .st O6 fun _ =>
    .ret _

theorem part58 (v1603 : IVec S128x128 1) (v1917 : FVec F S128x128 .f32) (v1919 : FVec F S128x128 .f32) (v1921 : FVec F S128x128 .f32) (cst_1213 : F .f32) :
    Keeps defs₀ (c : Thread nD τ) I (k0_part58 (F := F) i arg1 harg1 arg2 harg2 arg3 harg3 arg4 harg4 arg5 harg5 arg6 harg6 arg7 harg7 arg8 harg8 arg9 harg9 arg10 harg10 arg11 harg11 v1603 v1917 v1919 v1921 cst_1213) := by
  rw [k0_part58_eq_skeleton]
  unfold k0_part58_skel
  exact .ld O6 fun _ => .st O6 fun _ => .ld O7 fun _ => .st O7 fun _ => .ld O8 fun _ => .st O8 fun _ => .ld O5
    fun _ => .ld O5 fun _ => .ld O5 fun _ => .ld O6 fun _ => .st O6 fun _ => .ld O6 fun _ => .ret _

theorem part59 (v1603 : IVec S128x128 1) (v1945 : FVec F S128x128 .f32) (v1947 : FVec F S128x128 .f32) (v1959 : FVec F S1x128x128 .bf16) :
    Keeps defs₀ (c : Thread nD τ) I (k0_part59 (F := F) i arg1 harg1 arg2 harg2 arg3 harg3 arg4 harg4 arg5 harg5 arg6 harg6 arg7 harg7 arg8 harg8 arg9 harg9 arg10 harg10 arg11 harg11 v1603 v1945 v1947 v1959) := by
  rw [k0_part59_eq_skeleton]
  unfold k0_part59_skel
  exact .st O6 fun _ => .ld O7 fun _ => .st O7 fun _ => .ld O8 fun _ => .st O8 fun _ => .ld O5 fun _ => .ld O5
    fun _ => .ld O5 fun _ => .ld O6 fun _ => .st O6 fun _ => .ld O6 fun _ => .st O6 fun _ => .ld O7 fun _ =>
    .st O7 fun _ => .ret _

theorem part60 (v1603 : IVec S128x128 1) (v1990 : FVec F S128x128 .bf16) :
    Keeps defs₀ (c : Thread nD τ) I (k0_part60 (F := F) i arg1 harg1 arg2 harg2 arg3 harg3 arg4 harg4 arg5 harg5 arg6 harg6 arg7 harg7 arg8 harg8 arg9 harg9 arg10 harg10 arg11 harg11 v1603 v1990) := by
  rw [k0_part60_eq_skeleton]
  unfold k0_part60_skel
  exact .ld O8 fun _ => .st O8 fun _ => .ld O5 fun _ => .ld O5 fun _ => .ld O5 fun _ => .ld O6 fun _ => .st O6
    fun _ => .ld O6 fun _ => .st O6 fun _ => .ld O7 fun _ => .st O7 fun _ => .ld O8 fun _ => .st O8 fun _ =>
    .ret _

theorem part61  :
    Keeps defs₀ (c : Thread nD τ) I (k0_part61 (F := F) i arg1 harg1 arg2 harg2 arg3 harg3 arg4 harg4 arg5 harg5 arg6 harg6 arg7 harg7 arg8 harg8 arg9 harg9 arg10 harg10 arg11 harg11 ) := by
  rw [k0_part61_eq_skeleton]
  unfold k0_part61_skel
  exact .ld O6 fun _ => .ld O9 fun _ => .ld O7 fun _ => .ld O6 fun _ => .ld O9 fun _ => .ld O7 fun _ => .ld O6
    fun _ => .ld O9 fun _ => .ld O7 fun _ => .ld O6 fun _ => .ld O9 fun _ => .ld O7 fun _ => .ret _

theorem part62 (v2025 : FVec F S256x128 .f32) (v2031 : FVec F S256x128 .f32) (v2037 : FVec F S256x128 .f32) (v2045 : FVec F S256x128 .f32) (v2047 : FVec F S256x1 .f32) (v2048 : FVec F S256x128 .f32) :
    Keeps defs₀ (c : Thread nD τ) I (k0_part62 (F := F) i arg1 harg1 arg2 harg2 arg3 harg3 arg4 harg4 arg5 harg5 arg6 harg6 arg7 harg7 arg8 harg8 arg9 harg9 arg10 harg10 arg11 harg11 v2025 v2031 v2037 v2045 v2047 v2048) := by
  rw [k0_part62_eq_skeleton]
  unfold k0_part62_skel
  exact .ld O8 fun _ => .ld O6 fun _ => .ld O9 fun _ => .ld O7 fun _ => .ld O8 fun _ => .ld O6 fun _ => .ld O9
    fun _ => .ld O7 fun _ => .ret _

theorem part63 (v3 : IVec S128x128 1) (v2039 : FVec F S256x1 .f32) (v2055 : FVec F S256x256 .f32) (v2082 : FVec F S256x128 .f32) :
    Keeps defs₀ (c : Thread nD τ) I (k0_part63 (F := F) i arg1 harg1 arg2 harg2 arg3 harg3 arg4 harg4 arg5 harg5 arg6 harg6 arg7 harg7 arg8 harg8 arg9 harg9 arg10 harg10 arg11 harg11 v3 v2039 v2055 v2082) := by
  rw [k0_part63_eq_skeleton]
  unfold k0_part63_skel
  exact .ld O8 fun _ => .ld O11 fun _ => .st O11 fun _ => .ld O11 fun _ => .st O11 fun _ => .ld O11 fun _ =>
    .st O11 fun _ => .ld O6 fun _ => .ret _

theorem part64 (v3 : IVec S128x128 1) (v2045 : FVec F S256x128 .f32) (v2047 : FVec F S256x1 .f32) (v2061 : FVec F S256x128 .f32) (v2071 : FVec F S256x256 .f32) (v2079 : FVec F S256x1 .f32) (v2120 : Vec F S2x128x128 .bf16) :
    Keeps defs₀ (c : Thread nD τ) I (k0_part64 (F := F) i arg1 harg1 arg2 harg2 arg3 harg3 arg4 harg4 arg5 harg5 arg6 harg6 arg7 harg7 arg8 harg8 arg9 harg9 arg10 harg10 arg11 harg11 v3 v2045 v2047 v2061 v2071 v2079 v2120) := by
  rw [k0_part64_eq_skeleton]
  unfold k0_part64_skel
  exact .ld O9 fun _ => .ld O7 fun _ => .ld O8 fun _ => .ld O11 fun _ => .st O11 fun _ => .ret _

theorem part65 (v3 : IVec S128x128 1) (v2061 : FVec F S256x128 .f32) (v2063 : FVec F S256x1 .f32) (v2077 : FVec F S256x128 .f32) (v2087 : FVec F S256x256 .f32) (v2127 : FVec F S256x1 .f32) (v2142 : BitVec 32) (v2152 : FVec F S128x128 .f32) (v2155 : FVec F S128x128 .f32) :
    Keeps defs₀ (c : Thread nD τ) I (k0_part65 (F := F) i arg1 harg1 arg2 harg2 arg3 harg3 arg4 harg4 arg5 harg5 arg6 harg6 arg7 harg7 arg8 harg8 arg9 harg9 arg10 harg10 arg11 harg11 v3 v2061 v2063 v2077 v2087 v2127 v2142 v2152 v2155) := by
  rw [k0_part65_eq_skeleton]
  unfold k0_part65_skel
  exact .ld O11 fun _ => .st O11 fun _ => .ld O11 fun _ => .st O11 fun _ => .ld O6 fun _ => .ld O9 fun _ =>
    .ld O7 fun _ => .ld O8 fun _ => .ret _

theorem part66 (v3 : IVec S128x128 1) (v2077 : FVec F S256x128 .f32) (v2125 : FVec F S256x128 .f32) (v2135 : FVec F S256x256 .f32) (v2175 : FVec F S256x1 .f32) (v2185 : FVec F S256x128 .f32) (v2190 : BitVec 32) (v2193 : FVec F S128x128 .f32) (v2195 : FVec F S128x1 .f32) (v2196 : FVec F S128x1 .f32) :
    Keeps defs₀ (c : Thread nD τ) I (k0_part66 (F := F) i arg1 harg1 arg2 harg2 arg3 harg3 arg4 harg4 arg5 harg5 arg6 harg6 arg7 harg7 arg8 harg8 arg9 harg9 arg10 harg10 arg11 harg11 v3 v2077 v2125 v2135 v2175 v2185 v2190 v2193 v2195 v2196) := by
  rw [k0_part66_eq_skeleton]
  unfold k0_part66_skel
  exact .ld O11 fun _ => .st O11 fun _ => .ld O11 fun _ => .st O11 fun _ => .ld O11 fun _ => .st O11 fun _ =>
    .ld O6 fun _ => .ld O9 fun _ => .ld O7 fun _ => .ld O8 fun _ => .ret _

theorem part67 (v3 : IVec S128x128 1) (v2079 : FVec F S256x1 .f32) (v2173 : FVec F S256x128 .f32) (v2232 : FVec F S256x128 .f32) (v2233 : FVec F S256x128 .f32) (c3_i32 : BitVec 32) :
    Keeps defs₀ (c : Thread nD τ) I (k0_part67 (F := F) i arg1 harg1 arg2 harg2 arg3 harg3 arg4 harg4 arg5 harg5 arg6 harg6 arg7 harg7 arg8 harg8 arg9 harg9 arg10 harg10 arg11 harg11 v3 v2079 v2173 v2232 v2233 c3_i32) := by
  rw [k0_part67_eq_skeleton]
  unfold k0_part67_skel
  exact .ld O11 fun _ => .st O11 fun _ => .ld O11 fun _ => .st O11 fun _ => .ld O11 fun _ => .st O11 fun _ =>
    .ld O6 fun _ => .ld O9 fun _ => .ld O7 fun _ => .ret _

theorem part68 (v3 : IVec S128x128 1) (v2125 : FVec F S256x128 .f32) (v2127 : FVec F S256x1 .f32) (v2183 : FVec F S256x256 .f32) (v2223 : FVec F S256x1 .f32) (v2270 : FVec F S256 .f32) :
    Keeps defs₀ (c : Thread nD τ) I (k0_part68 (F := F) i arg1 harg1 arg2 harg2 arg3 harg3 arg4 harg4 arg5 harg5 arg6 harg6 arg7 harg7 arg8 harg8 arg9 harg9 arg10 harg10 arg11 harg11 v3 v2125 v2127 v2183 v2223 v2270) := by
  rw [k0_part68_eq_skeleton]
  unfold k0_part68_skel
  exact .ld O8 fun _ => .ld O11 fun _ => .st O11 fun _ => .ld O11 fun _ => .st O11 fun _ => .ld O11 fun _ =>
    .st O11 fun _ => .ret _

theorem part69 (v3 : IVec S128x128 1) (v2173 : FVec F S256x128 .f32) (v2175 : FVec F S256x1 .f32) (v2221 : FVec F S256x128 .f32) (v2231 : FVec F S256x256 .f32) (v2271 : FVec F S256x1 .f32) :
    Keeps defs₀ (c : Thread nD τ) I (k0_part69 (F := F) i arg1 harg1 arg2 harg2 arg3 harg3 arg4 harg4 arg5 harg5 arg6 harg6 arg7 harg7 arg8 harg8 arg9 harg9 arg10 harg10 arg11 harg11 v3 v2173 v2175 v2221 v2231 v2271) := by
  rw [k0_part69_eq_skeleton]
  unfold k0_part69_skel
  exact .ld O6 fun _ => .ld O9 fun _ => .ld O7 fun _ => .ld O8 fun _ => .ld O11 fun _ => .ret _

theorem part70 (v2221 : FVec F S256x128 .f32) (v2269 : FVec F S256x128 .f32) (v2279 : FVec F S256x256 .f32) (v2319 : FVec F S256x1 .f32) (v2334 : BitVec 32) (v2337 : FVec F S128x128 .f32) (v2344 : FVec F S128x128 .f32) (v2347 : FVec F S128x128 .f32) :
    Keeps defs₀ (c : Thread nD τ) I (k0_part70 (F := F) i arg1 harg1 arg2 harg2 arg3 harg3 arg4 harg4 arg5 harg5 arg6 harg6 arg7 harg7 arg8 harg8 arg9 harg9 arg10 harg10 arg11 harg11 v2221 v2269 v2279 v2319 v2334 v2337 v2344 v2347) := by
  rw [k0_part70_eq_skeleton]
  unfold k0_part70_skel
  exact .st O11 fun _ => .ld O11 fun _ => .st O11 fun _ => .ld O11 fun _ => .st O11 fun _ => .ld O6 fun _ =>
    .ld O9 fun _ => .ld O7 fun _ => .ld O8 fun _ => .ret _

theorem part71 (v3 : IVec S128x128 1) (v2223 : FVec F S256x1 .f32) (v2269 : FVec F S256x128 .f32) (v2317 : FVec F S256x128 .f32) (v2367 : FVec F S256x1 .f32) (v2377 : FVec F S256x128 .f32) (v2382 : BitVec 32) (v2383 : FVec F S128x128 .f32) (v2384 : FVec F S128x128 .f32) :
    Keeps defs₀ (c : Thread nD τ) I (k0_part71 (F := F) i arg1 harg1 arg2 harg2 arg3 harg3 arg4 harg4 arg5 harg5 arg6 harg6 arg7 harg7 arg8 harg8 arg9 harg9 arg10 harg10 arg11 harg11 v3 v2223 v2269 v2317 v2367 v2377 v2382 v2383 v2384) := by
  rw [k0_part71_eq_skeleton]
  unfold k0_part71_skel
  exact .ld O11 fun _ => .st O11 fun _ => .ld O11 fun _ => .st O11 fun _ => .ld O11 fun _ => .st O11 fun _ =>
    .ld O6 fun _ => .ld O9 fun _ => .ld O7 fun _ => .ld O8 fun _ => .ret _

theorem part72 (v3 : IVec S128x128 1) (v2271 : FVec F S256x1 .f32) (v2327 : FVec F S256x256 .f32) (v2419 : FVec F S256x128 .bf16) (v2422 : FVec F S128x256 .bf16) (cst_1519 : FVec F S256x256 .f32) :
    Keeps defs₀ (c : Thread nD τ) I (k0_part72 (F := F) i arg1 harg1 arg2 harg2 arg3 harg3 arg4 harg4 arg5 harg5 arg6 harg6 arg7 harg7 arg8 harg8 arg9 harg9 arg10 harg10 arg11 harg11 v3 v2271 v2327 v2419 v2422 cst_1519) := by
  rw [k0_part72_eq_skeleton]
  unfold k0_part72_skel
  exact .ld O11 fun _ => .st O11 fun _ => .ld O11 fun _ => .st O11 fun _ => .ld O11 fun _ => .st O11 fun _ =>
    .ld O6 fun _ => .ld O9 fun _ => .ld O7 fun _ => .ret _

theorem part73 (v3 : IVec S128x128 1) (v2317 : FVec F S256x128 .f32) (v2319 : FVec F S256x1 .f32) (v2365 : FVec F S256x128 .f32) (v2375 : FVec F S256x256 .f32) (v2415 : FVec F S256x1 .f32) (v2457 : FVec F S256x128 .bf16) (v2458 : Vec F S256x128 .f32) (v2459 : Vec F S128x128 .bf16) (cst_1539 : FVec F S256x128 .f32) :
    Keeps defs₀ (c : Thread nD τ) I (k0_part73 (F := F) i arg1 harg1 arg2 harg2 arg3 harg3 arg4 harg4 arg5 harg5 arg6 harg6 arg7 harg7 arg8 harg8 arg9 harg9 arg10 harg10 arg11 harg11 v3 v2317 v2319 v2365 v2375 v2415 v2457 v2458 v2459 cst_1539) := by
  rw [k0_part73_eq_skeleton]
  unfold k0_part73_skel
  exact .ld O8 fun _ => .ld O11 fun _ => .st O11 fun _ => .ld O11 fun _ => .st O11 fun _ => .ret _

theorem part74 (v3 : IVec S128x128 1) (v2365 : FVec F S256x128 .f32) (v2367 : FVec F S256x1 .f32) (v2413 : FVec F S256x128 .f32) (v2423 : FVec F S256x256 .f32) (v2463 : FVec F S256x1 .f32) (v2491 : FVec F S128x128 .f32) :
    Keeps defs₀ (c : Thread nD τ) I (k0_part74 (F := F) i arg1 harg1 arg2 harg2 arg3 harg3 arg4 harg4 arg5 harg5 arg6 harg6 arg7 harg7 arg8 harg8 arg9 harg9 arg10 harg10 arg11 harg11 v3 v2365 v2367 v2413 v2423 v2463 v2491) := by
  rw [k0_part74_eq_skeleton]
  unfold k0_part74_skel
  exact .ld O11 fun _ => .st O11 fun _ => .ld O6 fun _ => .ld O9 fun _ => .ld O7 fun _ => .ld O8 fun _ => .ret
    _

theorem part75 (v2413 : FVec F S256x128 .f32) (v2461 : FVec F S256x128 .f32) (v2471 : FVec F S256x256 .f32) (v2511 : FVec F S256x1 .f32) (v2526 : BitVec 32) (v2529 : FVec F S128x128 .f32) (v2536 : FVec F S128x128 .f32) (v2539 : FVec F S128x128 .f32) :
    Keeps defs₀ (c : Thread nD τ) I (k0_part75 (F := F) i arg1 harg1 arg2 harg2 arg3 harg3 arg4 harg4 arg5 harg5 arg6 harg6 arg7 harg7 arg8 harg8 arg9 harg9 arg10 harg10 arg11 harg11 v2413 v2461 v2471 v2511 v2526 v2529 v2536 v2539) := by
  rw [k0_part75_eq_skeleton]
  unfold k0_part75_skel
  exact .ld O11 fun _ => .st O11 fun _ => .ld O11 fun _ => .st O11 fun _ => .ld O11 fun _ => .st O11 fun _ =>
    .ld O6 fun _ => .ld O9 fun _ => .ld O7 fun _ => .ld O8 fun _ => .ret _

theorem part76 (v3 : IVec S128x128 1) (v2415 : FVec F S256x1 .f32) (v2461 : FVec F S256x128 .f32) (v2509 : FVec F S256x128 .f32) (v2519 : FVec F S256x256 .f32) (v2559 : FVec F S256x1 .f32) (v2568 : FVec F S256x128 .f32) (v2569 : FVec F S256x128 .f32) (v2572 : BitVec 32) (c10_i32_1596 : BitVec 32) (c4_i32_1597 : BitVec 32) :
    Keeps defs₀ (c : Thread nD τ) I (k0_part76 (F := F) i arg1 harg1 arg2 harg2 arg3 harg3 arg4 harg4 arg5 harg5 arg6 harg6 arg7 harg7 arg8 harg8 arg9 harg9 arg10 harg10 arg11 harg11 v3 v2415 v2461 v2509 v2519 v2559 v2568 v2569 v2572 c10_i32_1596 c4_i32_1597) := by
  rw [k0_part76_eq_skeleton]
  unfold k0_part76_skel
  exact .ld O11 fun _ => .st O11 fun _ => .ld O11 fun _ => .st O11 fun _ => .ld O11 fun _ => .st O11 fun _ =>
    .ld O8 fun _ => .ret _

theorem part77 (v3 : IVec S128x128 1) (v2463 : FVec F S256x1 .f32) (v2509 : FVec F S256x128 .f32) (v2557 : FVec F S256x128 .f32) (v2567 : FVec F S256x256 .f32) (v2601 : FVec F S256x1 .f32) (v2610 : FVec F S256x128 .f32) (v2611 : FVec F S256x128 .f32) (v2614 : BitVec 32) :
    Keeps defs₀ (c : Thread nD τ) I (k0_part77 (F := F) i arg1 harg1 arg2 harg2 arg3 harg3 arg4 harg4 arg5 harg5 arg6 harg6 arg7 harg7 arg8 harg8 arg9 harg9 arg10 harg10 arg11 harg11 v3 v2463 v2509 v2557 v2567 v2601 v2610 v2611 v2614) := by
  rw [k0_part77_eq_skeleton]
  unfold k0_part77_skel
  exact .ld O11 fun _ => .st O11 fun _ => .ld O11 fun _ => .st O11 fun _ => .ld O11 fun _ => .st O11 fun _ =>
    .ld O8 fun _ => .ret _

theorem part78 (v3 : IVec S128x128 1) (v2511 : FVec F S256x1 .f32) (v2557 : FVec F S256x128 .f32) (v2609 : FVec F S256x256 .f32) (v2643 : FVec F S256x1 .f32) (v2652 : FVec F S256x128 .f32) (v2653 : FVec F S256x128 .f32) (v2655 : BitVec 32) :
    Keeps defs₀ (c : Thread nD τ) I (k0_part78 (F := F) i arg1 harg1 arg2 harg2 arg3 harg3 arg4 harg4 arg5 harg5 arg6 harg6 arg7 harg7 arg8 harg8 arg9 harg9 arg10 harg10 arg11 harg11 v3 v2511 v2557 v2609 v2643 v2652 v2653 v2655) := by
  rw [k0_part78_eq_skeleton]
  unfold k0_part78_skel
  exact .ld O11 fun _ => .st O11 fun _ => .ld O11 fun _ => .st O11 fun _ => .ld O11 fun _ => .st O11 fun _ =>
    .ld O8 fun _ => .ret _

theorem part79 (v3 : IVec S128x128 1) (v2559 : FVec F S256x1 .f32) (v2601 : FVec F S256x1 .f32) (v2651 : FVec F S256x256 .f32) (v2692 : FVec F S256x128 .f32) (v2693 : FVec F S256x128 .f32) (v2695 : BitVec 32) (c0_i32_1642 : BitVec 32) :
    Keeps defs₀ (c : Thread nD τ) I (k0_part79 (F := F) i arg1 harg1 arg2 harg2 arg3 harg3 arg4 harg4 arg5 harg5 arg6 harg6 arg7 harg7 arg8 harg8 arg9 harg9 arg10 harg10 arg11 harg11 v3 v2559 v2601 v2651 v2692 v2693 v2695 c0_i32_1642) := by
  rw [k0_part79_eq_skeleton]
  unfold k0_part79_skel
  exact .ld O11 fun _ => .st O11 fun _ => .ld O11 fun _ => .st O11 fun _ => .ld O11 fun _ => .st O11 fun _ =>
    .ret _

theorem part80 (v3 : IVec S128x128 1) (v2643 : FVec F S256x1 .f32) (v2691 : FVec F S256x256 .f32) (v2725 : FVec F S256x128 .f32) (v2730 : BitVec 32) (v2733 : FVec F S128x128 .f32) (v2737 : FVec F S128x128 .f32) (v2738 : FVec F S128x1 .f32) :
    Keeps defs₀ (c : Thread nD τ) I (k0_part80 (F := F) i arg1 harg1 arg2 harg2 arg3 harg3 arg4 harg4 arg5 harg5 arg6 harg6 arg7 harg7 arg8 harg8 arg9 harg9 arg10 harg10 arg11 harg11 v3 v2643 v2691 v2725 v2730 v2733 v2737 v2738) := by
  rw [k0_part80_eq_skeleton]
  unfold k0_part80_skel
  exact .ld O11 fun _ => .st O11 fun _ => .ld O11 fun _ => .st O11 fun _ => .ld O11 fun _ => .st O11 fun _ =>
    .ld O11 fun _ => .st O11 fun _ => .ret _

theorem part81 (v2762 : BitVec 32) (v2772 : FVec F S128x128 .f32) (v2775 : FVec F S128x128 .f32) :
    Keeps defs₀ (c : Thread nD τ) I (k0_part81 (F := F) i arg1 harg1 arg2 harg2 arg3 harg3 arg4 harg4 arg5 harg5 arg6 harg6 arg7 harg7 arg8 harg8 arg9 harg9 arg10 harg10 arg11 harg11 v2762 v2772 v2775) := by
  rw [k0_part81_eq_skeleton]
  unfold k0_part81_skel
  exact .ld O11 fun _ => .st O11 fun _ => .ld O11 fun _ => .st O11 fun _ => .ld O11 fun _ => .ld O10 fun _ =>
    .st O10 fun _ => .ld O11 fun _ => .ld O10 fun _ => .st O10 fun _ => .ld O11 fun _ => .ld O10 fun _ => .st
    O10 fun _ => .ld O11 fun _ => .ld O10 fun _ => .ret _

theorem part82 (v2807 : FVec F S1x512x128 .f32) :
    Keeps defs₀ (c : Thread nD τ) I (k0_part82 (F := F) i arg1 harg1 arg2 harg2 arg3 harg3 arg4 harg4 arg5 harg5 arg6 harg6 arg7 harg7 arg8 harg8 arg9 harg9 arg10 harg10 arg11 harg11 v2807) := by
  rw [k0_part82_eq_skeleton]
  unfold k0_part82_skel
  exact .st O10 fun _ => .ld O11 fun _ => .ld O10 fun _ => .st O10 fun _ => .ld O11 fun _ => .ld O10 fun _ =>
    .st O10 fun _ => .ld O11 fun _ => .ld O10 fun _ => .st O10 fun _ => .ld O11 fun _ => .ld O10 fun _ => .st
    O10 fun _ => .ld O11 fun _ => .ld O10 fun _ => .ret _

theorem part83 (c0_i32 : BitVec 32) (c1_i32 : BitVec 32) (k0_t1 : Fin k0_t1_loop.trips) :
    Keeps defs₀ (c : Thread nD τ) I (k0_part83 (F := F) i arg1 harg1 arg2 harg2 arg3 harg3 arg4 harg4 arg5 harg5 arg6 harg6 arg7 harg7 arg8 harg8 arg9 harg9 arg10 harg10 arg11 harg11 c0_i32 c1_i32 k0_t1) := by
  rw [k0_part83_eq_skeleton]
  unfold k0_part83_skel
  exact .bind (part2 _ arg1 harg1 arg2 harg2 arg3 harg3 arg4 harg4 arg5 harg5 arg6 harg6 arg7 harg7 arg8 harg8
    arg9 harg9 arg10 harg10 arg11 harg11 O1 O2 O3 O4 O5 O6 O7 O8 O9 O10 O11 _ _ _) fun _ => .bind (part3 _
    arg1 harg1 arg2 harg2 arg3 harg3 arg4 harg4 arg5 harg5 arg6 harg6 arg7 harg7 arg8 harg8 arg9 harg9 arg10
    harg10 arg11 harg11 O1 O2 O3 O4 O5 O6 O7 O8 O9 O10 O11 _ _ _ _) fun _ => .bind (part4 _ arg1 harg1 arg2
    harg2 arg3 harg3 arg4 harg4 arg5 harg5 arg6 harg6 arg7 harg7 arg8 harg8 arg9 harg9 arg10 harg10 arg11
    harg11 O1 O2 O3 O4 O5 O6 O7 O8 O9 O10 O11 _ _ _) fun _ => .bind (part5 _ arg1 harg1 arg2 harg2 arg3 harg3
    arg4 harg4 arg5 harg5 arg6 harg6 arg7 harg7 arg8 harg8 arg9 harg9 arg10 harg10 arg11 harg11 O1 O2 O3 O4 O5
    O6 O7 O8 O9 O10 O11 _ _ _ _) fun _ => .bind (part6 _ arg1 harg1 arg2 harg2 arg3 harg3 arg4 harg4 arg5
    harg5 arg6 harg6 arg7 harg7 arg8 harg8 arg9 harg9 arg10 harg10 arg11 harg11 O1 O2 O3 O4 O5 O6 O7 O8 O9 O10
    O11 _ _ _ _ _ _) fun _ => .bind (part7 _ arg1 harg1 arg2 harg2 arg3 harg3 arg4 harg4 arg5 harg5 arg6 harg6
    arg7 harg7 arg8 harg8 arg9 harg9 arg10 harg10 arg11 harg11 O1 O2 O3 O4 O5 O6 O7 O8 O9 O10 O11 _ _ _ _ _)
    fun _ => .bind (part8 _ arg1 harg1 arg2 harg2 arg3 harg3 arg4 harg4 arg5 harg5 arg6 harg6 arg7 harg7 arg8
    harg8 arg9 harg9 arg10 harg10 arg11 harg11 O1 O2 O3 O4 O5 O6 O7 O8 O9 O10 O11 _ _ _ _ _ _ _ _ _) fun _ =>
    .bind (part9 _ arg1 harg1 arg2 harg2 arg3 harg3 arg4 harg4 arg5 harg5 arg6 harg6 arg7 harg7 arg8 harg8
    arg9 harg9 arg10 harg10 arg11 harg11 O1 O2 O3 O4 O5 O6 O7 O8 O9 O10 O11 _ _ _ _ _ _ _ _) fun _ => .bind
    (part10 _ arg1 harg1 arg2 harg2 arg3 harg3 arg4 harg4 arg5 harg5 arg6 harg6 arg7 harg7 arg8 harg8 arg9
    harg9 arg10 harg10 arg11 harg11 O1 O2 O3 O4 O5 O6 O7 O8 O9 O10 O11 _ _ _ _ _ _ _ _) fun _ => .bind (part11
    _ arg1 harg1 arg2 harg2 arg3 harg3 arg4 harg4 arg5 harg5 arg6 harg6 arg7 harg7 arg8 harg8 arg9 harg9 arg10
    harg10 arg11 harg11 O1 O2 O3 O4 O5 O6 O7 O8 O9 O10 O11 _ _ _ _ _ _ _ _) fun _ => .bind (part12 _ arg1
    harg1 arg2 harg2 arg3 harg3 arg4 harg4 arg5 harg5 arg6 harg6 arg7 harg7 arg8 harg8 arg9 harg9 arg10 harg10
    arg11 harg11 O1 O2 O3 O4 O5 O6 O7 O8 O9 O10 O11 _ _ _ _ _) fun _ => .bind (part13 _ arg1 harg1 arg2 harg2
    arg3 harg3 arg4 harg4 arg5 harg5 arg6 harg6 arg7 harg7 arg8 harg8 arg9 harg9 arg10 harg10 arg11 harg11 O1
    O2 O3 O4 O5 O6 O7 O8 O9 O10 O11 _ _ _ _ _ _ _ _ _) fun _ => .bind (part14 _ arg1 harg1 arg2 harg2 arg3
    harg3 arg4 harg4 arg5 harg5 arg6 harg6 arg7 harg7 arg8 harg8 arg9 harg9 arg10 harg10 arg11 harg11 O1 O2 O3
    O4 O5 O6 O7 O8 O9 O10 O11 _ _ _ _ _ _ _ _) fun _ => .bind (part15 _ arg1 harg1 arg2 harg2 arg3 harg3 arg4
    harg4 arg5 harg5 arg6 harg6 arg7 harg7 arg8 harg8 arg9 harg9 arg10 harg10 arg11 harg11 O1 O2 O3 O4 O5 O6
    O7 O8 O9 O10 O11 _ _ _ _ _ _ _ _) fun _ => .bind (part16 _ arg1 harg1 arg2 harg2 arg3 harg3 arg4 harg4
    arg5 harg5 arg6 harg6 arg7 harg7 arg8 harg8 arg9 harg9 arg10 harg10 arg11 harg11 O1 O2 O3 O4 O5 O6 O7 O8
    O9 O10 O11 _ _ _ _ _ _ _ _) fun _ => .bind (part17 _ arg1 harg1 arg2 harg2 arg3 harg3 arg4 harg4 arg5
    harg5 arg6 harg6 arg7 harg7 arg8 harg8 arg9 harg9 arg10 harg10 arg11 harg11 O1 O2 O3 O4 O5 O6 O7 O8 O9 O10
    O11 _ _ _ _ _) fun _ => .bind (part18 _ arg1 harg1 arg2 harg2 arg3 harg3 arg4 harg4 arg5 harg5 arg6 harg6
    arg7 harg7 arg8 harg8 arg9 harg9 arg10 harg10 arg11 harg11 O1 O2 O3 O4 O5 O6 O7 O8 O9 O10 O11 _ _ _ _ _ _
    _ _ _) fun _ => .bind (part19 _ arg1 harg1 arg2 harg2 arg3 harg3 arg4 harg4 arg5 harg5 arg6 harg6 arg7
    harg7 arg8 harg8 arg9 harg9 arg10 harg10 arg11 harg11 O1 O2 O3 O4 O5 O6 O7 O8 O9 O10 O11 _ _ _ _ _ _ _ _)
    fun _ => .bind (part20 _ arg1 harg1 arg2 harg2 arg3 harg3 arg4 harg4 arg5 harg5 arg6 harg6 arg7 harg7 arg8
    harg8 arg9 harg9 arg10 harg10 arg11 harg11 O1 O2 O3 O4 O5 O6 O7 O8 O9 O10 O11 _ _ _ _ _ _ _ _ _ _) fun _
    => .bind (part21 _ arg1 harg1 arg2 harg2 arg3 harg3 arg4 harg4 arg5 harg5 arg6 harg6 arg7 harg7 arg8 harg8
    arg9 harg9 arg10 harg10 arg11 harg11 O1 O2 O3 O4 O5 O6 O7 O8 O9 O10 O11 _ _ _ _ _ _ _ _ _ _) fun _ =>
    .bind (part22 _ arg1 harg1 arg2 harg2 arg3 harg3 arg4 harg4 arg5 harg5 arg6 harg6 arg7 harg7 arg8 harg8
    arg9 harg9 arg10 harg10 arg11 harg11 O1 O2 O3 O4 O5 O6 O7 O8 O9 O10 O11 _ _ _ _ _ _ _ _) fun _ => .bind
    (part23 _ arg1 harg1 arg2 harg2 arg3 harg3 arg4 harg4 arg5 harg5 arg6 harg6 arg7 harg7 arg8 harg8 arg9
    harg9 arg10 harg10 arg11 harg11 O1 O2 O3 O4 O5 O6 O7 O8 O9 O10 O11 _ _ _ _ _ _) fun _ => .bind (part24 _
    arg1 harg1 arg2 harg2 arg3 harg3 arg4 harg4 arg5 harg5 arg6 harg6 arg7 harg7 arg8 harg8 arg9 harg9 arg10
    harg10 arg11 harg11 O1 O2 O3 O4 O5 O6 O7 O8 O9 O10 O11 _ _ _ _ _ _) fun _ => .bind (part25 _ arg1 harg1
    arg2 harg2 arg3 harg3 arg4 harg4 arg5 harg5 arg6 harg6 arg7 harg7 arg8 harg8 arg9 harg9 arg10 harg10 arg11
    harg11 O1 O2 O3 O4 O5 O6 O7 O8 O9 O10 O11 _ _ _ _) fun _ => .bind (part26 _ arg1 harg1 arg2 harg2 arg3
    harg3 arg4 harg4 arg5 harg5 arg6 harg6 arg7 harg7 arg8 harg8 arg9 harg9 arg10 harg10 arg11 harg11 O1 O2 O3
    O4 O5 O6 O7 O8 O9 O10 O11 _) fun _ => .bind (part27 _ arg1 harg1 arg2 harg2 arg3 harg3 arg4 harg4 arg5
    harg5 arg6 harg6 arg7 harg7 arg8 harg8 arg9 harg9 arg10 harg10 arg11 harg11 O1 O2 O3 O4 O5 O6 O7 O8 O9 O10
    O11 _ _ _) fun _ => .bind (part28 _ arg1 harg1 arg2 harg2 arg3 harg3 arg4 harg4 arg5 harg5 arg6 harg6 arg7
    harg7 arg8 harg8 arg9 harg9 arg10 harg10 arg11 harg11 O1 O2 O3 O4 O5 O6 O7 O8 O9 O10 O11 _ _ _ _) fun _ =>
    .bind (part29 _ arg1 harg1 arg2 harg2 arg3 harg3 arg4 harg4 arg5 harg5 arg6 harg6 arg7 harg7 arg8 harg8
    arg9 harg9 arg10 harg10 arg11 harg11 O1 O2 O3 O4 O5 O6 O7 O8 O9 O10 O11 _ _ _ _ _) fun _ => .bind (part30
    _ arg1 harg1 arg2 harg2 arg3 harg3 arg4 harg4 arg5 harg5 arg6 harg6 arg7 harg7 arg8 harg8 arg9 harg9 arg10
    harg10 arg11 harg11 O1 O2 O3 O4 O5 O6 O7 O8 O9 O10 O11 _ _ _) fun _ => .bind (part31 _ arg1 harg1 arg2
    harg2 arg3 harg3 arg4 harg4 arg5 harg5 arg6 harg6 arg7 harg7 arg8 harg8 arg9 harg9 arg10 harg10 arg11
    harg11 O1 O2 O3 O4 O5 O6 O7 O8 O9 O10 O11 _ _ _ _ _ _ _ _ _) fun _ => .bind (part32 _ arg1 harg1 arg2
    harg2 arg3 harg3 arg4 harg4 arg5 harg5 arg6 harg6 arg7 harg7 arg8 harg8 arg9 harg9 arg10 harg10 arg11
    harg11 O1 O2 O3 O4 O5 O6 O7 O8 O9 O10 O11 _ _ _ _ _ _ _ _ _) fun _ => .bind (part33 _ arg1 harg1 arg2
    harg2 arg3 harg3 arg4 harg4 arg5 harg5 arg6 harg6 arg7 harg7 arg8 harg8 arg9 harg9 arg10 harg10 arg11
    harg11 O1 O2 O3 O4 O5 O6 O7 O8 O9 O10 O11 _ _ _ _ _ _ _ _ _) fun _ => .bind (part34 _ arg1 harg1 arg2
    harg2 arg3 harg3 arg4 harg4 arg5 harg5 arg6 harg6 arg7 harg7 arg8 harg8 arg9 harg9 arg10 harg10 arg11
    harg11 O1 O2 O3 O4 O5 O6 O7 O8 O9 O10 O11 _ _ _ _ _ _ _) fun _ => .bind (part35 _ arg1 harg1 arg2 harg2
    arg3 harg3 arg4 harg4 arg5 harg5 arg6 harg6 arg7 harg7 arg8 harg8 arg9 harg9 arg10 harg10 arg11 harg11 O1
    O2 O3 O4 O5 O6 O7 O8 O9 O10 O11 _ _ _ _ _ _) fun _ => .bind (part36 _ arg1 harg1 arg2 harg2 arg3 harg3
    arg4 harg4 arg5 harg5 arg6 harg6 arg7 harg7 arg8 harg8 arg9 harg9 arg10 harg10 arg11 harg11 O1 O2 O3 O4 O5
    O6 O7 O8 O9 O10 O11 _ _ _ _ _ _ _ _) fun _ => .bind (part37 _ arg1 harg1 arg2 harg2 arg3 harg3 arg4 harg4
    arg5 harg5 arg6 harg6 arg7 harg7 arg8 harg8 arg9 harg9 arg10 harg10 arg11 harg11 O1 O2 O3 O4 O5 O6 O7 O8
    O9 O10 O11 _ _ _ _) fun _ => .bind (part38 _ arg1 harg1 arg2 harg2 arg3 harg3 arg4 harg4 arg5 harg5 arg6
    harg6 arg7 harg7 arg8 harg8 arg9 harg9 arg10 harg10 arg11 harg11 O1 O2 O3 O4 O5 O6 O7 O8 O9 O10 O11 _ _ _
    _ _ _) fun _ => .bind (part39 _ arg1 harg1 arg2 harg2 arg3 harg3 arg4 harg4 arg5 harg5 arg6 harg6 arg7
    harg7 arg8 harg8 arg9 harg9 arg10 harg10 arg11 harg11 O1 O2 O3 O4 O5 O6 O7 O8 O9 O10 O11 _ _ _ _ _ _ _ _)
    fun _ => .bind (part40 _ arg1 harg1 arg2 harg2 arg3 harg3 arg4 harg4 arg5 harg5 arg6 harg6 arg7 harg7 arg8
    harg8 arg9 harg9 arg10 harg10 arg11 harg11 O1 O2 O3 O4 O5 O6 O7 O8 O9 O10 O11 _ _ _ _ _ _ _) fun _ =>
    .bind (part41 _ arg1 harg1 arg2 harg2 arg3 harg3 arg4 harg4 arg5 harg5 arg6 harg6 arg7 harg7 arg8 harg8
    arg9 harg9 arg10 harg10 arg11 harg11 O1 O2 O3 O4 O5 O6 O7 O8 O9 O10 O11 _ _ _ _ _ _ _) fun _ => .bind
    (part42 _ arg1 harg1 arg2 harg2 arg3 harg3 arg4 harg4 arg5 harg5 arg6 harg6 arg7 harg7 arg8 harg8 arg9
    harg9 arg10 harg10 arg11 harg11 O1 O2 O3 O4 O5 O6 O7 O8 O9 O10 O11 _ _ _ _ _ _ _) fun _ => .bind (part43 _
    arg1 harg1 arg2 harg2 arg3 harg3 arg4 harg4 arg5 harg5 arg6 harg6 arg7 harg7 arg8 harg8 arg9 harg9 arg10
    harg10 arg11 harg11 O1 O2 O3 O4 O5 O6 O7 O8 O9 O10 O11 _ _ _ _ _ _ _ _) fun _ => .bind (part44 _ arg1
    harg1 arg2 harg2 arg3 harg3 arg4 harg4 arg5 harg5 arg6 harg6 arg7 harg7 arg8 harg8 arg9 harg9 arg10 harg10
    arg11 harg11 O1 O2 O3 O4 O5 O6 O7 O8 O9 O10 O11 _ _ _ _ _ _ _) fun _ => .bind (part45 _ arg1 harg1 arg2
    harg2 arg3 harg3 arg4 harg4 arg5 harg5 arg6 harg6 arg7 harg7 arg8 harg8 arg9 harg9 arg10 harg10 arg11
    harg11 O1 O2 O3 O4 O5 O6 O7 O8 O9 O10 O11 _ _ _ _ _ _ _) fun _ => .bind (part46 _ arg1 harg1 arg2 harg2
    arg3 harg3 arg4 harg4 arg5 harg5 arg6 harg6 arg7 harg7 arg8 harg8 arg9 harg9 arg10 harg10 arg11 harg11 O1
    O2 O3 O4 O5 O6 O7 O8 O9 O10 O11 _ _ _ _ _ _ _ _) fun _ => .bind (part47 _ arg1 harg1 arg2 harg2 arg3 harg3
    arg4 harg4 arg5 harg5 arg6 harg6 arg7 harg7 arg8 harg8 arg9 harg9 arg10 harg10 arg11 harg11 O1 O2 O3 O4 O5
    O6 O7 O8 O9 O10 O11 _ _ _) fun _ => .bind (part48 _ arg1 harg1 arg2 harg2 arg3 harg3 arg4 harg4 arg5 harg5
    arg6 harg6 arg7 harg7 arg8 harg8 arg9 harg9 arg10 harg10 arg11 harg11 O1 O2 O3 O4 O5 O6 O7 O8 O9 O10 O11 _
    _ _) fun _ => .bind (part49 _ arg1 harg1 arg2 harg2 arg3 harg3 arg4 harg4 arg5 harg5 arg6 harg6 arg7 harg7
    arg8 harg8 arg9 harg9 arg10 harg10 arg11 harg11 O1 O2 O3 O4 O5 O6 O7 O8 O9 O10 O11 _ _ _) fun _ => .bind
    (part50 _ arg1 harg1 arg2 harg2 arg3 harg3 arg4 harg4 arg5 harg5 arg6 harg6 arg7 harg7 arg8 harg8 arg9
    harg9 arg10 harg10 arg11 harg11 O1 O2 O3 O4 O5 O6 O7 O8 O9 O10 O11 _ _) fun _ => .bind (part51 _ arg1
    harg1 arg2 harg2 arg3 harg3 arg4 harg4 arg5 harg5 arg6 harg6 arg7 harg7 arg8 harg8 arg9 harg9 arg10 harg10
    arg11 harg11 O1 O2 O3 O4 O5 O6 O7 O8 O9 O10 O11 _ _ _ _) fun _ => .bind (part52 _ arg1 harg1 arg2 harg2
    arg3 harg3 arg4 harg4 arg5 harg5 arg6 harg6 arg7 harg7 arg8 harg8 arg9 harg9 arg10 harg10 arg11 harg11 O1
    O2 O3 O4 O5 O6 O7 O8 O9 O10 O11 _ _ _ _ _) fun _ => .bind (part53 _ arg1 harg1 arg2 harg2 arg3 harg3 arg4
    harg4 arg5 harg5 arg6 harg6 arg7 harg7 arg8 harg8 arg9 harg9 arg10 harg10 arg11 harg11 O1 O2 O3 O4 O5 O6
    O7 O8 O9 O10 O11 _ _ _ _) fun _ => .bind (part54 _ arg1 harg1 arg2 harg2 arg3 harg3 arg4 harg4 arg5 harg5
    arg6 harg6 arg7 harg7 arg8 harg8 arg9 harg9 arg10 harg10 arg11 harg11 O1 O2 O3 O4 O5 O6 O7 O8 O9 O10 O11 _
    _ _) fun _ => .bind (part55 _ arg1 harg1 arg2 harg2 arg3 harg3 arg4 harg4 arg5 harg5 arg6 harg6 arg7 harg7
    arg8 harg8 arg9 harg9 arg10 harg10 arg11 harg11 O1 O2 O3 O4 O5 O6 O7 O8 O9 O10 O11 _) fun _ => .bind
    (part56 _ arg1 harg1 arg2 harg2 arg3 harg3 arg4 harg4 arg5 harg5 arg6 harg6 arg7 harg7 arg8 harg8 arg9
    harg9 arg10 harg10 arg11 harg11 O1 O2 O3 O4 O5 O6 O7 O8 O9 O10 O11 _ _ _) fun _ => .bind (part57 _ arg1
    harg1 arg2 harg2 arg3 harg3 arg4 harg4 arg5 harg5 arg6 harg6 arg7 harg7 arg8 harg8 arg9 harg9 arg10 harg10
    arg11 harg11 O1 O2 O3 O4 O5 O6 O7 O8 O9 O10 O11 _ _ _ _ _) fun _ => .bind (part58 _ arg1 harg1 arg2 harg2
    arg3 harg3 arg4 harg4 arg5 harg5 arg6 harg6 arg7 harg7 arg8 harg8 arg9 harg9 arg10 harg10 arg11 harg11 O1
    O2 O3 O4 O5 O6 O7 O8 O9 O10 O11 _ _ _ _ _) fun _ => .bind (part59 _ arg1 harg1 arg2 harg2 arg3 harg3 arg4
    harg4 arg5 harg5 arg6 harg6 arg7 harg7 arg8 harg8 arg9 harg9 arg10 harg10 arg11 harg11 O1 O2 O3 O4 O5 O6
    O7 O8 O9 O10 O11 _ _ _ _) fun _ => .bind (part60 _ arg1 harg1 arg2 harg2 arg3 harg3 arg4 harg4 arg5 harg5
    arg6 harg6 arg7 harg7 arg8 harg8 arg9 harg9 arg10 harg10 arg11 harg11 O1 O2 O3 O4 O5 O6 O7 O8 O9 O10 O11 _
    _) fun _ => .bind (part61 _ arg1 harg1 arg2 harg2 arg3 harg3 arg4 harg4 arg5 harg5 arg6 harg6 arg7 harg7
    arg8 harg8 arg9 harg9 arg10 harg10 arg11 harg11 O1 O2 O3 O4 O5 O6 O7 O8 O9 O10 O11) fun _ => .ret _

theorem part84 (v3 : IVec S128x128 1) (v2025 : FVec F S256x128 .f32) (v2031 : FVec F S256x128 .f32) (v2037 : FVec F S256x128 .f32) (v2039 : FVec F S256x1 .f32) (v2045 : FVec F S256x128 .f32) (v2047 : FVec F S256x1 .f32) (v2048 : FVec F S256x128 .f32) :
    Keeps defs₀ (c : Thread nD τ) I (k0_part84 (F := F) i arg1 harg1 arg2 harg2 arg3 harg3 arg4 harg4 arg5 harg5 arg6 harg6 arg7 harg7 arg8 harg8 arg9 harg9 arg10 harg10 arg11 harg11 v3 v2025 v2031 v2037 v2039 v2045 v2047 v2048) := by
  rw [k0_part84_eq_skeleton]
  unfold k0_part84_skel
  exact .bind (part62 _ arg1 harg1 arg2 harg2 arg3 harg3 arg4 harg4 arg5 harg5 arg6 harg6 arg7 harg7 arg8
    harg8 arg9 harg9 arg10 harg10 arg11 harg11 O1 O2 O3 O4 O5 O6 O7 O8 O9 O10 O11 _ _ _ _ _ _) fun _ => .bind
    (part63 _ arg1 harg1 arg2 harg2 arg3 harg3 arg4 harg4 arg5 harg5 arg6 harg6 arg7 harg7 arg8 harg8 arg9
    harg9 arg10 harg10 arg11 harg11 O1 O2 O3 O4 O5 O6 O7 O8 O9 O10 O11 _ _ _ _) fun _ => .bind (part64 _ arg1
    harg1 arg2 harg2 arg3 harg3 arg4 harg4 arg5 harg5 arg6 harg6 arg7 harg7 arg8 harg8 arg9 harg9 arg10 harg10
    arg11 harg11 O1 O2 O3 O4 O5 O6 O7 O8 O9 O10 O11 _ _ _ _ _ _ _) fun _ => .bind (part65 _ arg1 harg1 arg2
    harg2 arg3 harg3 arg4 harg4 arg5 harg5 arg6 harg6 arg7 harg7 arg8 harg8 arg9 harg9 arg10 harg10 arg11
    harg11 O1 O2 O3 O4 O5 O6 O7 O8 O9 O10 O11 _ _ _ _ _ _ _ _ _) fun _ => .bind (part66 _ arg1 harg1 arg2
    harg2 arg3 harg3 arg4 harg4 arg5 harg5 arg6 harg6 arg7 harg7 arg8 harg8 arg9 harg9 arg10 harg10 arg11
    harg11 O1 O2 O3 O4 O5 O6 O7 O8 O9 O10 O11 _ _ _ _ _ _ _ _ _ _) fun _ => .bind (part67 _ arg1 harg1 arg2
    harg2 arg3 harg3 arg4 harg4 arg5 harg5 arg6 harg6 arg7 harg7 arg8 harg8 arg9 harg9 arg10 harg10 arg11
    harg11 O1 O2 O3 O4 O5 O6 O7 O8 O9 O10 O11 _ _ _ _ _ _) fun _ => .bind (part68 _ arg1 harg1 arg2 harg2 arg3
    harg3 arg4 harg4 arg5 harg5 arg6 harg6 arg7 harg7 arg8 harg8 arg9 harg9 arg10 harg10 arg11 harg11 O1 O2 O3
    O4 O5 O6 O7 O8 O9 O10 O11 _ _ _ _ _ _) fun _ => .bind (part69 _ arg1 harg1 arg2 harg2 arg3 harg3 arg4
    harg4 arg5 harg5 arg6 harg6 arg7 harg7 arg8 harg8 arg9 harg9 arg10 harg10 arg11 harg11 O1 O2 O3 O4 O5 O6
    O7 O8 O9 O10 O11 _ _ _ _ _ _) fun _ => .bind (part70 _ arg1 harg1 arg2 harg2 arg3 harg3 arg4 harg4 arg5
    harg5 arg6 harg6 arg7 harg7 arg8 harg8 arg9 harg9 arg10 harg10 arg11 harg11 O1 O2 O3 O4 O5 O6 O7 O8 O9 O10
    O11 _ _ _ _ _ _ _ _) fun _ => .bind (part71 _ arg1 harg1 arg2 harg2 arg3 harg3 arg4 harg4 arg5 harg5 arg6
    harg6 arg7 harg7 arg8 harg8 arg9 harg9 arg10 harg10 arg11 harg11 O1 O2 O3 O4 O5 O6 O7 O8 O9 O10 O11 _ _ _
    _ _ _ _ _ _) fun _ => .bind (part72 _ arg1 harg1 arg2 harg2 arg3 harg3 arg4 harg4 arg5 harg5 arg6 harg6
    arg7 harg7 arg8 harg8 arg9 harg9 arg10 harg10 arg11 harg11 O1 O2 O3 O4 O5 O6 O7 O8 O9 O10 O11 _ _ _ _ _ _)
    fun _ => .bind (part73 _ arg1 harg1 arg2 harg2 arg3 harg3 arg4 harg4 arg5 harg5 arg6 harg6 arg7 harg7 arg8
    harg8 arg9 harg9 arg10 harg10 arg11 harg11 O1 O2 O3 O4 O5 O6 O7 O8 O9 O10 O11 _ _ _ _ _ _ _ _ _ _) fun _
    => .bind (part74 _ arg1 harg1 arg2 harg2 arg3 harg3 arg4 harg4 arg5 harg5 arg6 harg6 arg7 harg7 arg8 harg8
    arg9 harg9 arg10 harg10 arg11 harg11 O1 O2 O3 O4 O5 O6 O7 O8 O9 O10 O11 _ _ _ _ _ _ _) fun _ => .bind
    (part75 _ arg1 harg1 arg2 harg2 arg3 harg3 arg4 harg4 arg5 harg5 arg6 harg6 arg7 harg7 arg8 harg8 arg9
    harg9 arg10 harg10 arg11 harg11 O1 O2 O3 O4 O5 O6 O7 O8 O9 O10 O11 _ _ _ _ _ _ _ _) fun _ => .bind (part76
    _ arg1 harg1 arg2 harg2 arg3 harg3 arg4 harg4 arg5 harg5 arg6 harg6 arg7 harg7 arg8 harg8 arg9 harg9 arg10
    harg10 arg11 harg11 O1 O2 O3 O4 O5 O6 O7 O8 O9 O10 O11 _ _ _ _ _ _ _ _ _ _ _) fun _ => .bind (part77 _
    arg1 harg1 arg2 harg2 arg3 harg3 arg4 harg4 arg5 harg5 arg6 harg6 arg7 harg7 arg8 harg8 arg9 harg9 arg10
    harg10 arg11 harg11 O1 O2 O3 O4 O5 O6 O7 O8 O9 O10 O11 _ _ _ _ _ _ _ _ _) fun _ => .bind (part78 _ arg1
    harg1 arg2 harg2 arg3 harg3 arg4 harg4 arg5 harg5 arg6 harg6 arg7 harg7 arg8 harg8 arg9 harg9 arg10 harg10
    arg11 harg11 O1 O2 O3 O4 O5 O6 O7 O8 O9 O10 O11 _ _ _ _ _ _ _ _) fun _ => .bind (part79 _ arg1 harg1 arg2
    harg2 arg3 harg3 arg4 harg4 arg5 harg5 arg6 harg6 arg7 harg7 arg8 harg8 arg9 harg9 arg10 harg10 arg11
    harg11 O1 O2 O3 O4 O5 O6 O7 O8 O9 O10 O11 _ _ _ _ _ _ _ _) fun _ => .bind (part80 _ arg1 harg1 arg2 harg2
    arg3 harg3 arg4 harg4 arg5 harg5 arg6 harg6 arg7 harg7 arg8 harg8 arg9 harg9 arg10 harg10 arg11 harg11 O1
    O2 O3 O4 O5 O6 O7 O8 O9 O10 O11 _ _ _ _ _ _ _ _) fun _ => .bind (part81 _ arg1 harg1 arg2 harg2 arg3 harg3
    arg4 harg4 arg5 harg5 arg6 harg6 arg7 harg7 arg8 harg8 arg9 harg9 arg10 harg10 arg11 harg11 O1 O2 O3 O4 O5
    O6 O7 O8 O9 O10 O11 _ _ _) fun _ => .bind (part82 _ arg1 harg1 arg2 harg2 arg3 harg3 arg4 harg4 arg5 harg5
    arg6 harg6 arg7 harg7 arg8 harg8 arg9 harg9 arg10 harg10 arg11 harg11 O1 O2 O3 O4 O5 O6 O7 O8 O9 O10 O11
    _) fun _ => .st O10 fun _ => .ld O11 fun _ => .ld O10 fun _ => .st O10 fun _ => .ld O11 fun _ => .ld O10
    fun _ => .st O10 fun _ => .ld O11 fun _ => .ld O10 fun _ => .st O10 fun _ => .ret _

/-- The merge of the branches' outputs, one block of rows. -/
theorem merge (k0_t1 : Fin k0_t1_loop.trips) (c0_i32_1742 : BitVec 32) (k : Fin k0_t2_loop.trips) (a : Unit) :
    Keeps defs₀ (c : Thread nD τ) I (k0_t2_body (F := F) i arg1 harg1 arg2 harg2 arg3 harg3 arg4 harg4 arg5 harg5 arg6 harg6 arg7 harg7 arg8 harg8 arg9 harg9 arg10 harg10 arg11 harg11 k0_t1 c0_i32_1742 k a) := by
  unfold k0_t2_body
  exact .bind (part1 _ arg1 harg1 arg2 harg2 arg3 harg3 arg4 harg4 arg5 harg5 arg6 harg6 arg7 harg7 arg8 harg8
    arg9 harg9 arg10 harg10 arg11 harg11 O1 O2 O3 O4 O5 O6 O7 O8 O9 O10 O11 _ _ _) fun _ => .ld O10 fun _ =>
    .ld O10 fun _ => .ld O4 fun _ => .st O4 fun _ => .ret _

/-- One pair of a batch entry and a head. -/
theorem pair (k : Fin k0_t1_loop.trips) (a : Unit) :
    Keeps defs₀ (c : Thread nD τ) I (k0_t1_body (F := F) i arg1 harg1 arg2 harg2 arg3 harg3 arg4 harg4 arg5 harg5 arg6 harg6 arg7 harg7 arg8 harg8 arg9 harg9 arg10 harg10 arg11 harg11 k a) := by
  unfold k0_t1_body
  exact .bind (part83 _ arg1 harg1 arg2 harg2 arg3 harg3 arg4 harg4 arg5 harg5 arg6 harg6 arg7 harg7 arg8
    harg8 arg9 harg9 arg10 harg10 arg11 harg11 O1 O2 O3 O4 O5 O6 O7 O8 O9 O10 O11 _ _ _) fun _ => .bind
    (part84 _ arg1 harg1 arg2 harg2 arg3 harg3 arg4 harg4 arg5 harg5 arg6 harg6 arg7 harg7 arg8 harg8 arg9
    harg9 arg10 harg10 arg11 harg11 O1 O2 O3 O4 O5 O6 O7 O8 O9 O10 O11 _ _ _ _ _ _ _ _) fun _ => .bind
    (Keeps.loop _ _ _ _ fun _ _ => merge _ arg1 harg1 arg2 harg2 arg3 harg3 arg4 harg4 arg5 harg5 arg6 harg6
    arg7 harg7 arg8 harg8 arg9 harg9 arg10 harg10 arg11 harg11 O1 O2 O3 O4 O5 O6 O7 O8 O9 O10 O11 _ _ _ _) fun
    _ => .ret _

/-- The whole body. -/
theorem body :
    Keeps defs₀ (c : Thread nD τ) I (cc0_dilated_attention (F := F) i arg1 harg1 arg2 harg2 arg3 harg3 arg4 harg4 arg5 harg5 arg6 harg6 arg7 harg7 arg8 harg8 arg9 harg9 arg10 harg10 arg11 harg11) := by
  rw [cc0_dilated_attention_eq_skeleton]
  unfold cc0_dilated_attention_skel
  refine Keeps.bind (Keeps.loop _ _ _ _ fun _ _ => pair _ arg1 harg1 arg2 harg2 arg3 harg3 arg4 harg4 arg5 harg5 arg6 harg6 arg7 harg7 arg8 harg8 arg9 harg9 arg10 harg10 arg11 harg11 O1 O2 O3 O4 O5 O6 O7 O8 O9 O10 O11 _ _) fun _ => ?_
  exact Keeps.ret _

end Cert.DilIdeal.Run

end
-- ==== Proof.DilIdeal.Frame.lean ====
/-
  THE FRAME OF THE DILATED ATTENTION. The body leaves its three input blocks as they are and ends with the output block and
  the scratch buffers at some contents (Keeps.lean); so every run terminates with the argument array unchanged and every
  semaphore counter at zero. Three windows read one array, each at its share of it; what the output
  window holds is not named.
-/
module

public import proofs.«01_k».proof.Proof.Gen.DilIdeal.Frame
public import proofs.«01_k».proof.Proof.DilIdeal.Keeps
public import Idealize.ShloMosaic.Lib.Claim

@[expose] public section

set_option maxRecDepth 16384

noncomputable section

namespace Cert.DilIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DilIdeal.Gen Cert.Keep

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window of which nothing is said: the output. -/
def forgets : Fin 4 → Bool := fun w => w.val == 3

/-- The pipeline's data: the arrays as the region finds them, each input's buffer left at its block. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, h⟩ => Pipeline.Dat.unnamed (cfg := cfg0) ⟨3, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = X0_0 m c t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d

/-- A scratch buffer at some contents. -/
abbrev scr (c : Dev nD) (b : Ref sig .tc) : sProp 𝕄 := iprop(∃ d, owns (c : Thread nD τ) (Memref.whole b) fullShare d)

/-- What the body is run with, and keeps. -/
def inv (c : Dev nD) (t : Fin cfg0.N) : sProp 𝕄 :=
  iprop(owns (c : Thread nD τ) (win0_0.stage (cfg0.slots t 0)) fullShare (X0_0 m c t)
    ∗ owns (c : Thread nD τ) (win0_1.stage (cfg0.slots t 1)) fullShare (X0_1 m c t)
    ∗ owns (c : Thread nD τ) (win0_2.stage (cfg0.slots t 2)) fullShare (X0_2 m c t)
    ∗ (∃ d, owns (c : Thread nD τ) (win0_3.stage (cfg0.slots t 3)) fullShare d)
    ∗ scr c cc0_scratch0 ∗ scr c cc0_scratch1 ∗ scr c cc0_scratch2 ∗ scr c cc0_scratch3 ∗ scr c cc0_scratch4
    ∗ scr c cc0_scratch5 ∗ scr c cc0_scratch6)

/-- The body keeps what it is run with. -/
theorem body_keeps (c : Dev nD) (t : Fin cfg0.N) : Keeps defs₀ (c : Thread nD τ) (inv m c t) (bodyAt0 (F := F) t) := by
  unfold inv
  exact body _ _ _ _ _ _ _ _ _ _ _ _ _ _ _ _ _ _ _ _ _ _ _
    (Owning.at (hstage0_0 ((cfg0.slots t 0).cast nbuf0_0)) _).left
    (Owning.at (hstage0_1 ((cfg0.slots t 1).cast nbuf0_1)) _).left.right
    (Owning.at (hstage0_2 ((cfg0.slots t 2).cast nbuf0_2)) _).left.right.right
    (Owning.some (hstage0_3 ((cfg0.slots t 3).cast nbuf0_3))).left.right.right.right
    (Owning.some (Memref.isWhole_whole _)).left.right.right.right.right
    (Owning.some (Memref.isWhole_whole _)).left.right.right.right.right.right
    (Owning.some (Memref.isWhole_whole _)).left.right.right.right.right.right.right
    (Owning.some (Memref.isWhole_whole _)).left.right.right.right.right.right.right.right
    (Owning.some (Memref.isWhole_whole _)).left.right.right.right.right.right.right.right.right
    (Owning.some (Memref.isWhole_whole _)).left.right.right.right.right.right.right.right.right.right
    (Owning.some (Memref.isWhole_whole _)).right.right.right.right.right.right.right.right.right.right

/-- The scratch buffers as the pipeline's invariant has them. -/
theorem PhiA_eq (c : Dev nD) :
    (Pipeline.ΦA spec0 c : sProp 𝕄)
      = iprop(iprop(scr c cc0_scratch0 ∗ scr c cc0_scratch1 ∗ scr c cc0_scratch2 ∗ scr c cc0_scratch3 ∗ scr c cc0_scratch4
          ∗ scr c cc0_scratch5 ∗ scr c cc0_scratch6) ∗ (∃ r, prngReg c r)) := by
  unfold Pipeline.ΦA; rw [scopedRest0_eq]; simp only [scr, owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare d))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (∃ d, owns (c : Thread nD τ) (win0_3.stage (cfg0.slots t 3)) fullShare d))

theorem sound_body (c : Dev nD) (t : Fin cfg0.N) :
    bodyPre m c t ⊢ wp frame (wpE (defs₀ (F := F)) Variants.none c none) Set.univ (bodyAt0 t) (fun _ => bodyPost m c t) := by
  have hb := body_keeps m c t
  unfold Keeps at hb
  unfold bodyPre bodyPost
  simp only [before_0, before_1, before_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after_0, after_1, after_2, PhiA_eq]
  iintro ⟨⟨HS, Hg⟩, Ho, ⟨%d0, H0⟩, ⟨%d1, H1⟩, ⟨%d2, H2⟩, H3⟩
  iapply (wp_wand_r Idealize.ShloMosaic.frame (wpE (defs₀ (F := F)) Variants.none (c : Thread nD τ) none) Set.univ)
  isplitl [HS H0 H1 H2 H3]
  · iapply hb
    unfold inv
    isplitl [H0]; · iexact H0
    isplitl [H1]; · iexact H1
    isplitl [H2]; · iexact H2
    isplitl [H3]; · iexact H3
    iexact HS
  iintro %_ H
  unfold inv
  icases H with ⟨H0, H1, H2, H3, HS⟩
  isplitl [HS Hg]
  · isplitl [HS]; · iexact HS
    iexact Hg
  isplitl [Ho]; · iexact Ho
  isplitl [H0]; · iexact H0
  isplitl [H1]; · iexact H1
  isplitl [H2]; · iexact H2
  iexact H3

/-- The body table's row at a point's slots. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ forgets := fun t => by
  rw [bigSep_W0, bigSep_W0, row]
  exact triple_restated (sound_body m c t) rfl .rfl fun _ => .rfl

set_option backward.isDefEq.respectTransparency.types false in
/-- The launch. -/
theorem launched : θ_run defs (onTc (τ := τ) (main (F := F))) (s₀ m ρ) (fun r =>
    (Pipeline.RDat.FramePost (cfgs 0) (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (obligation m c).loose) (hq := fun _ _ _ => rfl)
    (howed := fun _ _ => rfl) (V := V m) (hmain := hmain m Variants.none) (hA := A_eq m) (hΦ := fun _ _ => rfl)

/-- Every run terminates with the argument unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (Pipeline.RDat.FramePost.arr_in h.1 c 0 rfl).trans
    ((A_eq m c 0).trans (V_main_arg0 m c)), h.2⟩) (launched m ρ)

end Cert.DilIdeal.Run

end
-- ==== Proof.Softmax.lean ====
/-
  WEIGHTED MEANS WITH EXPONENTIAL WEIGHTS, over the extended reals. The weights `exp (s - M)` do not depend on `M` but for a
  common positive real factor, as long as `M` is real; a common positive real factor goes in and out of any sum. So a sum of
  weighted values divided by the sum of the weights is the sum of the values at the divided weights, whatever the values are.
-/
module

public import Idealize.ShloMosaic.Lib.Pointwise

@[expose] public section

noncomputable section

open Idealize.ShloMosaic

namespace Cert.Soft

/-- The number is neither infinity. -/
def IsReal (x : EReal) : Prop := ∃ r : ℝ, x = r

theorem isReal_iff {x : EReal} : IsReal x ↔ x ≠ ⊥ ∧ x ≠ ⊤ := by
  constructor
  · rintro ⟨r, rfl⟩
    exact ⟨EReal.coe_ne_bot r, EReal.coe_ne_top r⟩
  · rintro ⟨h, h'⟩
    exact ⟨x.toReal, (EReal.coe_toReal h' h).symm⟩

theorem IsReal.mul {x y : EReal} : IsReal x → IsReal y → IsReal (x * y) := by
  rintro ⟨a, rfl⟩ ⟨b, rfl⟩
  exact ⟨a * b, by norm_cast⟩

theorem IsReal.add {x y : EReal} : IsReal x → IsReal y → IsReal (x + y) := by
  rintro ⟨a, rfl⟩ ⟨b, rfl⟩
  exact ⟨a + b, by norm_cast⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number's size is below infinity: what the condition on an argument says of each element. -/
theorem isReal_of_abs_lt {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  rw [isReal_iff]
  constructor <;> rintro rfl <;> simp [Ideal.cmp] at h

theorem bits_bot : Ideal.ofBits .f32 0xFF800000#32 = ⊥ := by simp [Ideal.ofBits, Ideal.ieee]

/-- A maximum of numbers below infinity, one of them real. -/
theorem isReal_fold {ι : Type} (s : Finset ι) (f : ι → EReal) (h : ∀ i, f i ≠ ⊤) (k : ι) (hk : k ∈ s) (h' : f k ≠ ⊥) : IsReal (s.fold max ⊥ f) := by
  rw [isReal_iff, ← bot_lt_iff_ne_bot, ← lt_top_iff_ne_top, Finset.fold_max_lt, Finset.lt_fold_max]
  exact ⟨.inr ⟨k, hk, bot_lt_iff_ne_bot.2 h'⟩, bot_lt_top, fun i _ => lt_top_iff_ne_top.2 (h i)⟩

/-- The same of a reduction over one axis of an array. -/
theorem isReal_reduce {s t u : Shape} {a : Fin s.rank} (x : FVec Ideal s .f32) (init : FVec Ideal u .f32) (h' : s.ReducesTo [a] t) (h : s.Reduces [a] t)
    (hu : 0 < u.numel) (j : t.Idx) (hi : init (Shape.Idx.first hu) = ⊥) (hx : ∀ i, x i ≠ ⊤) (k : Fin (s.size a)) (hk : x (h.lift j k) ≠ ⊥) :
    IsReal (Host.reduce (FloatOps.maximumf (F := Ideal) (φ := .f32)) x init h' hu j) := by
  show IsReal (Host.reduce max x init h' hu j)
  rw [Host.reduce_eq_fold_single max x init h' h hu j, hi]
  exact isReal_fold _ _ (fun _ => hx _) k (Finset.mem_univ _) hk

theorem isReal_max {s : Shape} (x y : FVec Ideal s .f32) (i : s.Idx) (hx : x i = ⊥) (hy : IsReal (y i)) : IsReal (maximumf x y i) := by
  show IsReal (max (x i) (y i))
  rw [hx, max_eq_right bot_le]
  exact hy

/-- The mask of the first 64 of 128 lanes, read as a choice. -/
theorem choose_lt {α : Type} (j : Fin 128) (a b : α) :
    Scalar.select (IntOp.cmpi CmpIPredicate.slt (BitVec.ofNat 32 (j : ℕ)) 64#32) a b = if (j : ℕ) < 64 then a else b := by
  have e : IntOp.cmpi CmpIPredicate.slt (BitVec.ofNat 32 (j : ℕ)) 64#32 = if (j : ℕ) < 64 then 1#1 else 0#1 := by
    revert j; decide
  rw [e]; split_ifs <;> rfl

/-- A sum over 128 lanes with one half of them masked out is the sum over the other half. -/
theorem sum_lo (f : Fin 128 → EReal) : (∑ l : Fin 128, if (l : ℕ) < 64 then f l else 0) = ∑ d : Fin 64, f ⟨d, by omega⟩ := by
  rw [Fin.sum_univ_add (a := 64) (b := 64), show (∑ i : Fin 64, if ((Fin.natAdd 64 i : Fin 128) : ℕ) < 64 then f (Fin.natAdd 64 i) else 0) = 0 from
    Finset.sum_eq_zero fun i _ => by rw [if_neg (by simp)], add_zero]
  exact Finset.sum_congr rfl fun i _ => by rw [if_pos (by simp)]; rfl

theorem sum_hi (f : Fin 128 → EReal) : (∑ l : Fin 128, if (l : ℕ) < 64 then 0 else f l) = ∑ d : Fin 64, f ⟨64 + d, by omega⟩ := by
  rw [Fin.sum_univ_add (a := 64) (b := 64), show (∑ i : Fin 64, if ((Fin.castAdd 64 i : Fin 128) : ℕ) < 64 then 0 else f (Fin.castAdd 64 i)) = 0 from
    Finset.sum_eq_zero fun i _ => by rw [if_pos (by simp)], zero_add]
  exact Finset.sum_congr rfl fun i _ => by rw [if_neg (by simp)]; rfl

/-! ## Positive real factors -/

theorem mul_sum_pos {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (EReal.coe_nonneg.2 hc) (EReal.coe_ne_top c)]

/-- Division by a positive real. -/
theorem div_pos (x : EReal) (d : ℝ) (hd : 0 < d) : Ideal.div x d = ((d⁻¹ : ℝ) : EReal) * x := by
  unfold Ideal.div
  rw [if_neg (by exact_mod_cast hd.ne'), ← EReal.coe_inv, mul_comm]

/-! ## The weights -/

/-- A weight is a real; it is positive where its score is real. -/
theorem weight {s M : EReal} (hM : IsReal M) (hs : s ≠ ⊤) : ∃ r : ℝ, Ideal.exp (s - M) = r ∧ 0 ≤ r ∧ (s ≠ ⊥ → 0 < r) := by
  obtain ⟨m, rfl⟩ := hM
  induction s with
  | bot => exact ⟨0, by simp, le_refl 0, fun h => absurd rfl h⟩
  | top => exact absurd rfl hs
  | coe s => exact ⟨Real.exp (s - m), rfl, (Real.exp_pos _).le, fun _ => Real.exp_pos _⟩

/-- The sum of the weights is a positive real, when one of the scores is real. -/
theorem weights {ι : Type} [Fintype ι] (s : ι → EReal) {M : EReal} (hM : IsReal M) (hs : ∀ i, s i ≠ ⊤) (k : ι) (hk : s k ≠ ⊥) :
    ∃ d : ℝ, ∑ i, Ideal.exp (s i - M) = d ∧ 0 < d := by
  classical
  choose r hr h0 h1 using fun i => weight hM (hs i)
  refine ⟨∑ i, r i, ?_, ?_⟩
  · rw [Finset.sum_congr rfl fun i _ => hr i]
    exact (coe_sum _ _).symm
  · exact Finset.sum_pos' (fun i _ => h0 i) ⟨k, Finset.mem_univ _, h1 k hk⟩

/-- Another real subtracted: a common positive factor. -/
theorem weight_shift {s M M' : EReal} (hM : IsReal M) (hM' : IsReal M') (hs : s ≠ ⊤) : Ideal.exp (s - M) = Ideal.exp (M' - M) * Ideal.exp (s - M') := by
  obtain ⟨m, rfl⟩ := hM
  obtain ⟨m', rfl⟩ := hM'
  induction s with
  | bot => simp
  | top => exact absurd rfl hs
  | coe s =>
    show ((Real.exp (s - m) : ℝ) : EReal) = ((Real.exp (m' - m) : ℝ) : EReal) * ((Real.exp (s - m') : ℝ) : EReal)
    rw [← EReal.coe_mul, ← Real.exp_add]
    congr 2
    ring

/-- The weighted values' sum over the weights' sum is the sum of the values at the divided weights. -/
theorem mean_eq {ι : Type} [Fintype ι] (s v : ι → EReal) {M M' : EReal} (hM : IsReal M) (hM' : IsReal M') (hs : ∀ i, s i ≠ ⊤) (k : ι) (hk : s k ≠ ⊥) :
    Ideal.div (∑ i, Ideal.exp (s i - M) * v i) (∑ i, Ideal.exp (s i - M))
      = ∑ i, v i * Ideal.div (Ideal.exp (s i - M')) (∑ i, Ideal.exp (s i - M')) := by
  obtain ⟨d, hd, d0⟩ := weights s hM hs k hk
  obtain ⟨d', hd', d0'⟩ := weights s hM' hs k hk
  obtain ⟨c, hc, -, c0⟩ := weight hM (isReal_iff.1 hM').2
  have c1 := c0 (isReal_iff.1 hM').1
  have e : d = c * d' := by
    have : (d : EReal) = c * d' := by
      rw [← hd, ← hd', mul_sum_pos _ c c1.le, ← hc]
      exact Finset.sum_congr rfl fun i _ => weight_shift hM hM' (hs i)
    exact_mod_cast this
  rw [hd, hd', div_pos _ _ d0, mul_sum_pos _ _ (inv_pos.2 d0).le]
  refine Finset.sum_congr rfl fun i _ => ?_
  rw [div_pos _ _ d0', weight_shift hM hM' (hs i), hc, mul_comm (v i), ← mul_assoc, ← mul_assoc]
  congr 2
  rw [← EReal.coe_mul, e]
  congr 1
  field_simp

end Cert.Soft

end
-- ==== Proof.Xattn.Rows.lean ====
/-
  THE MEMORY ATTENTION CALL, ONE BLOCK OF ROWS. The kernel scores the two heads of a lane pair with the other head's lanes masked
  out, weighs the values with exponentials and divides once, after the sum; the reference divides each weight. The quotients
  agree where the scores are real (Softmax.lean).
-/
module

public import proofs.«01_k».proof.Proof.Softmax
public import proofs.«01_k».proof.Proof.Gen.XattnIdeal.Skeleton
public import proofs.«01_k».proof.Proof.Gen.XattnRefIdeal.Read
public import proofs.«01_k».proof.Pre_finite_queries_keys
public import Idealize.ShloMosaic.Lib.ReduceAll
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Cert.Soft

namespace Cert.XattnIdeal.Match

/-! ## The reference's steps, over variables -/
section Reference
open Cert.XattnRefIdeal Cert.XattnRefIdeal.Gen

def SCORES (h : FVec Ideal S20x32x2048x128 .bf16) (kv : FVec Ideal S32x256x512 .bf16) : FVec Ideal S32x4x2048x256 .f32 :=
  mulf (Host.dotGeneral dot_S32x2048x4x64_S32x256x4x64_S32x4x2048x256_3_3_1_1_02_02 none
      (shapeCast S32x2048x4x64 (transpose S32x2048x2x128 [1, 2, 0, 3] (extf (F := Ideal) .f32 (extractStridedSlice S2x32x2048x128 ![18, 0, 0, 0] h slices_S20x32x2048x128_S2x32x2048x128_18_0_0_0) bitsLt_bf16_f32) transposes_S2x32x2048x128_S32x2048x2x128_1_2_0_3) shapeCasts_S32x2048x2x128_S32x2048x4x64)
      (shapeCast S32x256x4x64 (extractStridedSlice S32x256x256 ![0, 0, 0] (extf (F := Ideal) .f32 kv bitsLt_bf16_f32) slices_S32x256x512_S32x256x256_0_0_0) shapeCasts_S32x256x256_S32x256x4x64))
    (broadcastInDim S32x4x2048x256 ![] bcast_S_S32x4x2048x256 (constant S_ .f32 0x3E000000#32))

def TOP (s : FVec Ideal S32x4x2048x256 .f32) : FVec Ideal S32x4x2048 .f32 :=
  maximumf (broadcastInDim S32x4x2048 ![] bcast_S_S32x4x2048 (constant S_ .f32 0xFF800000#32)) (Host.reduce FloatOps.maximumf s (constant S_ .f32 0xFF800000#32) reducesTo_S32x4x2048x256_S32x4x2048_d3 h_S_)

def WEIGHTS (s : FVec Ideal S32x4x2048x256 .f32) : FVec Ideal S32x4x2048x256 .f32 :=
  Host.exp (subf s (broadcastInDim S32x4x2048x256 ![0, 1, 2, 3] bcast_S32x4x2048x1_S32x4x2048x256_0_1_2_3 (broadcastInDim S32x4x2048x1 ![0, 1, 2] bcast_S32x4x2048_S32x4x2048x1_0_1_2 (TOP s))))

def SHARES (e : FVec Ideal S32x4x2048x256 .f32) : FVec Ideal S32x4x2048x256 .f32 :=
  Host.divf e (broadcastInDim S32x4x2048x256 ![0, 1, 2, 3] bcast_S32x4x2048x1_S32x4x2048x256_0_1_2_3 (broadcastInDim S32x4x2048x1 ![0, 1, 2] bcast_S32x4x2048_S32x4x2048x1_0_1_2
    (Host.reduceAdd e (constant S_ .f32 0x00000000#32) reducesTo_S32x4x2048x256_S32x4x2048_d3 h_S_)))

def OUT (p : FVec Ideal S32x4x2048x256 .f32) (kv : FVec Ideal S32x256x512 .bf16) : FVec Ideal S2x32x2048x128 .bf16 :=
  truncf (F := Ideal) .bf16 (transpose S2x32x2048x128 [2, 0, 1, 3] (shapeCast S32x2048x2x128 (transpose S32x2048x4x64 [0, 3, 1, 2]
    (Host.dotGeneral (F := Ideal) (φ₁ := .f32) (φ₂ := .f32) dot_S32x256x4x64_S32x4x2048x256_S32x4x64x2048_1_3_3_2_02_01 none
      (shapeCast S32x256x4x64 (extractStridedSlice S32x256x256 ![0, 0, 256] (extf (F := Ideal) .f32 kv bitsLt_bf16_f32) slices_S32x256x512_S32x256x256_0_0_256) shapeCasts_S32x256x256_S32x256x4x64) p)
    transposes_S32x4x64x2048_S32x2048x4x64_0_3_1_2) shapeCasts_S32x2048x4x64_S32x2048x2x128) transposes_S32x2048x2x128_S2x32x2048x128_2_0_1_3) bitsLt_bf16_f32

variable (h : FVec Ideal S20x32x2048x128 .bf16) (kv : FVec Ideal S32x256x512 .bf16) (s : FVec Ideal S32x4x2048x256 .f32)

theorem scores_at (b : Fin 32) (n : Fin 4) (r : Fin 2048) (x : Fin 256) : SCORES h kv (ix4 b n r x)
    = (∑ d : Fin 64, h (ix4 ⟨18 + n / 2, by omega⟩ b r ⟨n % 2 * 64 + d, by omega⟩) * kv (ix3 b x ⟨n * 64 + d, by omega⟩)) * Ideal.ofBits .f32 0x3E000000#32 := by
  pointwise [SCORES]

theorem weights_at (b : Fin 32) (n : Fin 4) (r : Fin 2048) (x : Fin 256) : WEIGHTS s (ix4 b n r x) = Ideal.exp (s (ix4 b n r x) - TOP s (ix3 b n r)) := by
  pointwise [WEIGHTS]

theorem shares_at (b : Fin 32) (n : Fin 4) (r : Fin 2048) (x : Fin 256) : SHARES s (ix4 b n r x) = Ideal.div (s (ix4 b n r x)) (∑ y : Fin 256, s (ix4 b n r y)) := by
  pointwise [SHARES]

theorem out_at (p : Fin 2) (b : Fin 32) (r : Fin 2048) (j : Fin 128) (n : Fin 4) (hn : (n : ℕ) = p * 2 + j / 64) :
    OUT s kv (ix4 p b r j) = ∑ x : Fin 256, kv (ix3 b x ⟨256 + (p * 128 + j), by omega⟩) * s (ix4 b n r x) := by
  have en : (⟨p * 2 + j / 64, by omega⟩ : Fin 4) = n := Fin.ext hn.symm
  have ej : ∀ i, (⟨256 + ((p * 2 + j / 64) * 64 + j % 64), i⟩ : Fin 512) = ⟨256 + (p * 128 + j), by omega⟩ := fun _ => Fin.ext (by show 256 + (((p : ℕ) * 2 + j / 64) * 64 + j % 64) = 256 + (p * 128 + j); omega)
  pointwise [OUT]
  simp only [en, ej]

theorem isReal_top (hs : ∀ i, IsReal (s i)) (i : S32x4x2048.Idx) : IsReal (TOP s i) := by
  unfold TOP
  refine isReal_max _ _ _ ?_ (isReal_reduce s _ _ (by decide) _ i bits_bot (fun i => (isReal_iff.1 (hs i)).2) (0 : Fin 256) (isReal_iff.1 (hs _)).1)
  pointwise [bits_bot]

end Reference

/-! ## The kernel's steps -/
section Kernel
open Cert.XattnIdeal Cert.XattnIdeal.Gen

/-- The scores of a block of rows: the first head's in the upper half, the second head's in the lower. -/
def kscores (q : FVec Ideal S1x1x256x128 .bf16) (k : FVec Ideal S1x256x128 .bf16) : FVec Ideal S512x256 .f32 := k0_pay5 q k

/-- Each row's weights times the values, and (in the right half) times ones. -/
def kpv (s : FVec Ideal S512x256 .f32) (v : FVec Ideal S1x256x128 .bf16) : FVec Ideal S512x256 .f32 := k0_pay12 s v

/-- The quotient, each head in its lanes. -/
def kout (q : FVec Ideal S1x1x256x128 .bf16) (k v : FVec Ideal S1x256x128 .bf16) : FVec Ideal S1x1x256x128 .bf16 :=
  k0_pay1 k0_pay4 (kpv (kscores q k) v)

variable (q : FVec Ideal S1x1x256x128 .bf16) (k v : FVec Ideal S1x256x128 .bf16) (s : FVec Ideal S512x256 .f32)

theorem kscores_lo (i x : Fin 256) : kscores q k (ix2 ⟨i, by omega⟩ x)
    = ∑ d : Fin 64, (q (ix4 0 0 i ⟨d, by omega⟩) * Ideal.ofBits .f32 0x3E000000#32) * k (ix3 0 x ⟨d, by omega⟩) := by
  pointwise [kscores, k0_pay5, k0_pay4]
  simp only [choose_lt]
  exact sum_lo fun l => q (ix4 0 0 i l) * Ideal.ofBits .f32 0x3E000000#32 * k (ix3 0 x l)

theorem kscores_hi (i x : Fin 256) : kscores q k (ix2 ⟨256 + i, by omega⟩ x)
    = ∑ d : Fin 64, (q (ix4 0 0 i ⟨64 + d, by omega⟩) * Ideal.ofBits .f32 0x3E000000#32) * k (ix3 0 x ⟨64 + d, by omega⟩) := by
  pointwise [kscores, k0_pay5, k0_pay4]
  simp only [choose_lt]
  exact sum_hi fun l => q (ix4 0 0 i l) * Ideal.ofBits .f32 0x3E000000#32 * k (ix3 0 x l)

theorem kpv_lo (i : Fin 512) (j : Fin 128) (f : Fin 256 → EReal) (hf : ∀ x, s (ix2 i x) = f x) :
    kpv s v (ix2 i ⟨j, by omega⟩) = ∑ x : Fin 256, Ideal.exp (f x - Finset.univ.fold max ⊥ f) * v (ix3 0 x j) := by
  obtain rfl : (fun x => s (ix2 i x)) = f := funext hf
  pointwise [kpv, k0_pay12, bits_bot]

theorem kpv_hi (i : Fin 512) (j : Fin 128) (f : Fin 256 → EReal) (hf : ∀ x, s (ix2 i x) = f x) :
    kpv s v (ix2 i ⟨128 + j, by omega⟩) = ∑ x : Fin 256, Ideal.exp (f x - Finset.univ.fold max ⊥ f) := by
  obtain rfl : (fun x => s (ix2 i x)) = f := funext hf
  pointwise [kpv, k0_pay12, bits_bot]

theorem kout_at (i : Fin 256) (j : Fin 128) (n : Fin 512) (hn : (n : ℕ) = j / 64 * 256 + i) :
    kout q k v (ix4 0 0 i j) = Ideal.div (kpv (kscores q k) v (ix2 n ⟨j, by omega⟩)) (kpv (kscores q k) v (ix2 n ⟨128 + j, by omega⟩)) := by
  pointwise [kout, k0_pay1, k0_pay4]
  rw [choose_lt]
  split_ifs with hj
  · rw [show n = ⟨i, by omega⟩ from Fin.ext (by show (n : ℕ) = i; omega)]
  · rw [show n = ⟨256 + i, by omega⟩ from Fin.ext (by show (n : ℕ) = 256 + i; omega)]

end Kernel

/-! ## The two compared -/

theorem bits_eighth : Ideal.ofBits .f32 0x3E000000#32 = ((1 / 8 : ℝ) : EReal) := by
  simp [Ideal.ofBits, Ideal.ieee, -EReal.coe_mul]; norm_num

theorem scaled {ι : Type} [Fintype ι] (f g : ι → EReal) : ∑ d, (f d * Ideal.ofBits .f32 0x3E000000#32) * g d = (∑ d, f d * g d) * Ideal.ofBits .f32 0x3E000000#32 := by
  rw [bits_eighth, mul_comm, mul_sum_pos _ _ (by norm_num)]
  exact Finset.sum_congr rfl fun d _ => by rw [mul_comm (f d), mul_assoc]

variable {q : FVec Ideal Cert.XattnIdeal.S1x1x256x128 .bf16} {k v : FVec Ideal Cert.XattnIdeal.S1x256x128 .bf16}
variable {H : FVec Ideal Cert.XattnRefIdeal.S20x32x2048x128 .bf16} {KV : FVec Ideal Cert.XattnRefIdeal.S32x256x512 .bf16}

theorem scores_eq (p : Fin 2) (b : Fin 32) (i : Fin 256) (r : Fin 2048)
    (hq : ∀ l : Fin 128, q (ix4 0 0 i l) = H (ix4 ⟨18 + p, by omega⟩ b r l))
    (hk : ∀ (x : Fin 256) (l : Fin 128), k (ix3 0 x l) = KV (ix3 b x ⟨p * 128 + l, by omega⟩))
    (n : Fin 2) (m : Fin 512) (hm : (m : ℕ) = n * 256 + i) (x : Fin 256) :
    kscores q k (ix2 m x) = SCORES H KV (ix4 b ⟨p * 2 + n, by omega⟩ r x) := by
  have e1 : (⟨18 + (p * 2 + n : ℕ) / 2, by omega⟩ : Fin 20) = ⟨18 + p, by omega⟩ := Fin.ext (by show 18 + ((p : ℕ) * 2 + n) / 2 = 18 + p; omega)
  rw [scores_at, ← scaled]
  dsimp only
  rw [e1]
  obtain hn | hn : (n : ℕ) = 0 ∨ (n : ℕ) = 1 := by omega
  · rw [show m = ⟨i, by omega⟩ from Fin.ext (by show (m : ℕ) = i; omega), kscores_lo]
    refine Finset.sum_congr rfl fun d _ => ?_
    have el : ∀ h, (⟨(p * 2 + n : ℕ) % 2 * 64 + d, h⟩ : Fin 128) = ⟨d, by omega⟩ := fun _ => Fin.ext (by show ((p : ℕ) * 2 + n) % 2 * 64 + d = d; omega)
    have ek : ∀ h, (⟨(p * 2 + n : ℕ) * 64 + d, h⟩ : Fin 512) = ⟨p * 128 + d, by omega⟩ := fun _ => Fin.ext (by show ((p : ℕ) * 2 + n) * 64 + d = p * 128 + d; omega)
    rw [hq, hk, el, ek]
  · rw [show m = ⟨256 + i, by omega⟩ from Fin.ext (by show (m : ℕ) = 256 + i; omega), kscores_hi]
    refine Finset.sum_congr rfl fun d _ => ?_
    have el : ∀ h, (⟨(p * 2 + n : ℕ) % 2 * 64 + d, h⟩ : Fin 128) = ⟨64 + d, by omega⟩ := fun _ => Fin.ext (by show ((p : ℕ) * 2 + n) % 2 * 64 + d = 64 + d; omega)
    have ek : ∀ h, (⟨(p * 2 + n : ℕ) * 64 + d, h⟩ : Fin 512) = ⟨p * 128 + (64 + d), by omega⟩ := fun _ => Fin.ext (by show ((p : ℕ) * 2 + n) * 64 + d = p * 128 + (64 + d); omega)
    rw [hq, hk, el, ek]

theorem isReal_scores (hH : ∀ p b r l, IsReal (H (ix4 (⟨18 + (p : Fin 2), by omega⟩ : Fin 20) b r l)))
    (hK : ∀ b x (l : Fin 256), IsReal (KV (ix3 b x (⟨l, by omega⟩ : Fin 512)))) (i) : IsReal (SCORES H KV i) := by
  obtain ⟨b, n, r, x, rfl⟩ : ∃ (b : Fin 32) (n : Fin 4) (r : Fin 2048) (x : Fin 256), i = ix4 b n r x := ⟨_, _, _, _, eq_ix4 i⟩
  rw [scores_at]
  exact .mul (.sum _ _ fun d => .mul (hH ⟨n / 2, by omega⟩ _ _ _) (hK _ _ ⟨n * 64 + d, by omega⟩)) ⟨_, bits_eighth⟩

theorem out_eq (hs : ∀ i, IsReal (SCORES H KV i)) (p : Fin 2) (b : Fin 32) (i : Fin 256) (r : Fin 2048)
    (hq : ∀ l : Fin 128, q (ix4 0 0 i l) = H (ix4 ⟨18 + p, by omega⟩ b r l))
    (hk : ∀ (x : Fin 256) (l : Fin 128), k (ix3 0 x l) = KV (ix3 b x ⟨p * 128 + l, by omega⟩))
    (hv : ∀ (x : Fin 256) (l : Fin 128), v (ix3 0 x l) = KV (ix3 b x ⟨256 + (p * 128 + l), by omega⟩)) (j : Fin 128) :
    kout q k v (ix4 0 0 i j) = OUT (SHARES (WEIGHTS (SCORES H KV))) KV (ix4 p b r j) := by
  have es := scores_eq p b i r hq hk ⟨j / 64, by omega⟩ ⟨j / 64 * 256 + i, by omega⟩ rfl
  rw [kout_at q k v i j ⟨j / 64 * 256 + i, by omega⟩ rfl, out_at _ _ p b r j ⟨p * 2 + j / 64, by omega⟩ rfl, kpv_lo _ _ _ _ _ es, kpv_hi _ _ _ _ _ es]
  simp only [shares_at, weights_at, hv]
  exact mean_eq (fun x => SCORES H KV (ix4 b ⟨p * 2 + j / 64, by omega⟩ r x)) (fun x => KV (ix3 b x ⟨256 + (p * 128 + j), by omega⟩))
    (isReal_fold _ _ (fun x => (isReal_iff.1 (hs _)).2) 0 (Finset.mem_univ _) (isReal_iff.1 (hs _)).1) (isReal_top _ hs _)
    (fun x => (isReal_iff.1 (hs _)).2) 0 (isReal_iff.1 (hs _)).1

/-! ## The condition on the arguments -/

theorem pre_facts : Cert.Pre_finite_queries_keys.Facts := by constructor <;> decide

theorem isReal_args [Cert.Pre_finite_queries_keys.Facts] (h : Cert.Pre_finite_queries_keys.fn (F := Ideal) H KV = fun _ => 1#1) :
    (∀ p b r l, IsReal (H (ix4 (⟨18 + (p : Fin 2), by omega⟩ : Fin 20) b r l))) ∧ (∀ b x (l : Fin 256), IsReal (KV (ix3 b x (⟨l, by omega⟩ : Fin 512)))) := by
  have h0 := congrFun h ix0
  obtain ⟨hq, hk⟩ := IntOp.andi_eq_one.1 h0
  refine ⟨fun p b r l => ?_, fun b x l => ?_⟩
  · have := Host.reduce_andi_all _ _ _ _ _ hq (ix4 p b r l)
    refine isReal_of_abs_lt ?_
    pointwise at this
    exact this
  · have := Host.reduce_andi_all _ _ _ _ _ hk (ix3 b x l)
    refine isReal_of_abs_lt ?_
    pointwise at this
    exact this

end Cert.XattnIdeal.Match
-- ==== Proof.Xattn.Value.lean ====
/-
  THE MEMORY ATTENTION CALL'S RESULT. Each of the sixteen pieces that a grid point stores is a lane pair's block of 256 rows,
  computed from the queries of that block and the batch's memory keys and values (Rows.lean).
-/
module

public import proofs.«01_k».proof.Proof.Xattn.Rows
public import proofs.«01_k».proof.Proof.Gen.XattnIdeal.Value
public import proofs.«01_k».proof.Proof.Gen.XattnRefIdeal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open Cert.Soft

namespace Cert.XattnIdeal.Match
open Cert.XattnIdeal Cert.XattnIdeal.Gen

variable (m : (ℓ : Loc nD τ sig) → Buf (Elt Ideal) ℓ)
variable (c : Dev nD) (t : Fin cfg0.N)

theorem idx : ∀ t : Fin cfg0.N, win0_0.index t = ![9, (grid0.coords t 0).val, 0, 0] ∧ win0_1.index t = ![(grid0.coords t 0).val, 0, 0]
    ∧ win0_2.index t = ![0, (grid0.coords t 0).val, 0, 0] :=
  (by decide +kernel : ∀ t : Fin grid0.N, _)

/-- The point's batch. -/
abbrev batch : Fin 32 := ⟨(grid0.coords t 0).val, (grid0.coords t 0).isLt⟩

abbrev H : FVec Ideal Cert.XattnRefIdeal.S20x32x2048x128 .bf16 := m ((c : Thread nD τ).loc main_arg0)
abbrev KV : FVec Ideal Cert.XattnRefIdeal.S32x256x512 .bf16 := m ((c : Thread nD τ).loc main_arg1)
abbrev RESULT : FVec Ideal Cert.XattnRefIdeal.S2x32x2048x128 .bf16 := OUT (SHARES (WEIGHTS (SCORES (H m c) (KV m c)))) (KV m c)

theorem q_at (p r : ℕ) (inb) (P : Fin 2) (hP : (P : ℕ) = p) (i : Fin 256) (R : Fin 2048) (hR : (R : ℕ) = r + i) (l : Fin 128) :
    View.ld (Val := Elt Ideal) (e' := .bf16) (iblk m c 0 t) (Rect.unit (s := S2x1x2048x128) ![p, 0, r, 0] ![1, 1, 256, 128] inb) (ix4 0 0 i l)
      = H m c (ix4 ⟨18 + P, by omega⟩ (batch t) R l) := by
  pointwise
  blk_point [iblk, V, idx t]

theorem kv_at (o : ℕ) (inb) (x : Fin 256) (l : Fin 128) (L : Fin 512) (hL : (L : ℕ) = o + l) :
    View.ld (Val := Elt Ideal) (e' := .bf16) (iblk m c 1 t) (Rect.unit (s := S1x256x512) ![0, 0, o] ![1, 256, 128] inb) (ix3 0 x l)
      = KV m c (ix3 (batch t) x L) := by
  pointwise
  blk_point [iblk, V, idx t]

/-- One stored piece. -/
theorem piece (hs : ∀ i, IsReal (SCORES (H m c) (KV m c) i)) {p r o o' : ℕ} {iq ik iv} {A : S1x1x256x128.Idx → EReal}
    (hA : A = kout (View.ld (Val := Elt Ideal) (e' := .bf16) (iblk m c 0 t) (Rect.unit (s := S2x1x2048x128) ![p, 0, r, 0] ![1, 1, 256, 128] iq))
      (View.ld (Val := Elt Ideal) (e' := .bf16) (iblk m c 1 t) (Rect.unit (s := S1x256x512) ![0, 0, o] ![1, 256, 128] ik))
      (View.ld (Val := Elt Ideal) (e' := .bf16) (iblk m c 1 t) (Rect.unit (s := S1x256x512) ![0, 0, o'] ![1, 256, 128] iv)))
    (h : o = p * 128 ∧ o' = 256 + p * 128)
    (x : S1x1x256x128.Idx) (y : S2x32x2048x128.Idx) (h0 : (y 0 : ℕ) = p) (h1 : (y 1 : ℕ) = (grid0.coords t 0).val) (h2 : (y 2 : ℕ) = r + (x 2 : ℕ)) (h3 : (y 3 : ℕ) = (x 3 : ℕ)) :
    A x = RESULT m c y := by
  obtain ⟨rfl, rfl⟩ := h
  have hx : x = ix4 0 0 (x 2) (x 3) := by
    funext a; match a with | 0 => exact Subsingleton.elim (α := Fin 1) _ _ | 1 => exact Subsingleton.elim (α := Fin 1) _ _ | 2 => rfl | 3 => rfl
  have hy : y = ix4 (y 0) (batch t) (y 2) (x 3) := by
    funext a; match a with | 0 => rfl | 1 => exact Fin.ext h1 | 2 => rfl | 3 => exact Fin.ext h3
  rw [hA, hx, hy]
  exact out_eq hs _ _ _ _ (fun l => q_at m c t p r iq _ h0 _ _ h2 l) (fun x l => kv_at m c t _ ik x l _ (by show ((y 0 : Fin 2) : ℕ) * 128 + _ = _; rw [h0]))
    (fun x l => kv_at m c t _ iv x l _ (by show 256 + (((y 0 : Fin 2) : ℕ) * 128 + _) = _; rw [h0]; omega)) _

theorem final (hs : ∀ i, IsReal (SCORES (H m c) (KV m c) i)) : (dats m 0 c).arrAt 2 (cfgs 0).N = RESULT m c := by
  refine (dats m 0 c).arrAt_eq_of_covers 2 _ (by decide +kernel) fun t _ y => ?_
  blk_simp
  rw [after0_2]
  unfold out0_2
  frame_out
  canon_tiles x h
  all_goals
    refine piece m c t hs rfl (by decide) x _ ?_ ?_ ?_ ?_ <;> blk_simp [idx t] <;> omega

theorem algebraic : Cert.algebraic_XattnIdeal_XattnRefIdeal_pre_finite_queries_keys (hXattnIdeal := Cert.XattnIdeal.Gen.facts) (hXattnRefIdeal := Cert.XattnRefIdeal.Gen.facts)
    (hPre_finite_queries_keys := pre_facts) :=
  fun m ρ m' ρ' hpre hag => by
    have hs : ∀ c i, IsReal (SCORES (H m c) (KV m c) i) := fun c =>
      have := @isReal_args _ _ pre_facts (hpre c)
      isReal_scores this.1 this.2
    exact ⟨fun c => RESULT m c,
      (θ_run _ _ _).mono (fun _ h c => ⟨(h c).1.trans (final m c (hs c)), (h c).2⟩) (Cert.XattnIdeal.Value.run_blocks m ρ),
      (θ_run _ _ _).mono (fun _ h c => ⟨(h c).1.trans (by
        obtain ⟨e0, e1⟩ := hag c
        dsimp only [RESULT, H, KV]
        rw [← e0, ← e1]
        rfl), (h c).2⟩) (Cert.XattnRefIdeal.Value.run m' ρ')⟩

end Cert.XattnIdeal.Match
-- ==== Proof.Sgu.Rows.lean ====
/-
  THE SPATIAL GATING CALL, TILE BY TILE. The projection, the GELU and the norm work on a row alone; the mixing works on a
  block of 128 rows and on one column at a time. So a tile of the rows, cut out of the whole array, goes through each step
  to the same tile of the step's result. `Tile r c A G` says that the array `A` is the tile of `G` at row `r`, column `c`.
-/
module

public import proofs.«01_k».proof.Proof.Gen.SguIdeal.Skeleton
public import proofs.«01_k».proof.Proof.Gen.SguRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo

namespace Cert.SguIdeal.Match

/-- `A` is the tile of `G` whose first row is `r` and whose first column is `c`. -/
def Tile {n k N K : ℕ} (r c : ℕ) (A : (⟨2, ![n, k]⟩ : Shape).Idx → EReal) (G : (⟨2, ![N, K]⟩ : Shape).Idx → EReal) : Prop :=
  ∀ (i : Fin n) (j : Fin k) (I : Fin N) (J : Fin K), (I : ℕ) = r + i → (J : ℕ) = c + j → A (ix2 i j) = G (ix2 I J)

/-! ## The reference's steps, over variables -/
section Reference
open Cert.SguRefIdeal Cert.SguRefIdeal.Gen

def PROD (x : FVec Ideal S65536x1024 .f32) (w : FVec Ideal S1024x1792 .f32) : FVec Ideal S65536x1792 .f32 :=
  Host.dotGeneral dot_S65536x1024_S1024x1792_S65536x1792_1_0_0_1_n_n none x w

def UPART (p : FVec Ideal S65536x1792 .f32) : FVec Ideal S65536x768 .f32 := extractStridedSlice S65536x768 ![0, 0] p slices_S65536x1792_S65536x768_0_0

def VPART (p : FVec Ideal S65536x1792 .f32) : FVec Ideal S65536x768 .f32 := extractStridedSlice S65536x768 ![0, 768] p slices_S65536x1792_S65536x768_0_768

def QPART (p : FVec Ideal S65536x1792 .f32) : FVec Ideal S2x65536x128 .bf16 :=
  truncf .bf16 (transpose S2x65536x128 [1, 0, 2] (shapeCast S65536x2x128 (extractStridedSlice S65536x256 ![0, 1536] p slices_S65536x1792_S65536x256_0_1536) shapeCasts_S65536x256_S65536x2x128) transposes_S65536x2x128_S2x65536x128_1_0_2) bitsLt_bf16_f32

def GELU (x : FVec Ideal S65536x768 .f32) : FVec Ideal S65536x768 .f32 :=
  mulf x (mulf (broadcastInDim S65536x768 ![] bcast_S_S65536x768 (constant S_ .f32 0x3F000000#32)) (addf (broadcastInDim S65536x768 ![] bcast_S_S65536x768 (constant S_ .f32 0x3F800000#32)) (Host.tanh (mulf (broadcastInDim S65536x768 ![] bcast_S_S65536x768 (constant S_ .f32 0x3F4C422A#32)) (addf x (mulf (broadcastInDim S65536x768 ![] bcast_S_S65536x768 (constant S_ .f32 0x3D372713#32)) (mulf (mulf x x) x)))))))

def MEAN (z : FVec Ideal S65536x768 .f32) : FVec Ideal S65536x1 .f32 :=
  Host.divf (broadcastInDim S65536x1 ![0] bcast_S65536_S65536x1_0 (Host.reduceAdd z (constant S_ .f32 0x00000000#32) reducesTo_S65536x768_S65536_d1 h_S_)) (broadcastInDim S65536x1 ![] bcast_S_S65536x1 (constant S_ .f32 0x44400000#32))

def CENTRED (z : FVec Ideal S65536x768 .f32) : FVec Ideal S65536x768 .f32 :=
  subf z (broadcastInDim S65536x768 ![0, 1] bcast_S65536x1_S65536x768_0_1 (MEAN z))

def SPREAD (d : FVec Ideal S65536x768 .f32) (g b : FVec Ideal S768 .f32) : FVec Ideal S65536x768 .f32 :=
  addf (mulf (mulf d (broadcastInDim S65536x768 ![0, 1] bcast_S65536x1_S65536x768_0_1 (Host.rsqrt (addf (MEAN (mulf d d)) (broadcastInDim S65536x1 ![] bcast_S_S65536x1 (constant S_ .f32 0x3727C5AC#32)))))) (broadcastInDim S65536x768 ![0, 1] bcast_S1x768_S65536x768_0_1 (broadcastInDim S1x768 ![1] bcast_S768_S1x768_1 g))) (broadcastInDim S65536x768 ![0, 1] bcast_S1x768_S65536x768_0_1 (broadcastInDim S1x768 ![1] bcast_S768_S1x768_1 b))

def NORM (z : FVec Ideal S65536x768 .f32) (g b : FVec Ideal S768 .f32) : FVec Ideal S65536x768 .f32 := SPREAD (CENTRED z) g b

/-- The weights on and below the diagonal. -/
def CAUSAL (w : FVec Ideal S12x128x128 .f32) : FVec Ideal S12x128x128 .f32 :=
  mulf w (broadcastInDim S12x128x128 ![0, 1, 2] bcast_S1x128x128_S12x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))

/-- Each block of 128 rows mixed by the weights of the column's group, and the bias added. -/
def MIXED (v : FVec Ideal S65536x768 .f32) (w : FVec Ideal S12x128x128 .f32) (b : FVec Ideal S12x128 .f32) : FVec Ideal S65536x768 .f32 :=
  shapeCast S65536x768 (addf (transpose S512x128x12x64 [1, 3, 0, 2] (Host.dotGeneral dot_S512x128x12x64_S12x128x128_S12x512x64x128_1_2_03_1_2_0 none (shapeCast S512x128x12x64 v shapeCasts_S65536x768_S512x128x12x64) w) transposes_S12x512x64x128_S512x128x12x64_1_3_0_2) (broadcastInDim S512x128x12x64 ![0, 1, 2, 3] bcast_S1x128x12x1_S512x128x12x64_0_1_2_3 (broadcastInDim S1x128x12x1 ![1, 2] bcast_S128x12_S1x128x12x1_1_2 (transpose S128x12 [1, 0] b transposes_S12x128_S128x12_1_0)))) shapeCasts_S512x128x12x64_S65536x768

def OUT (u v : FVec Ideal S65536x768 .f32) : FVec Ideal S6x65536x128 .bf16 :=
  truncf .bf16 (transpose S6x65536x128 [1, 0, 2] (shapeCast S65536x6x128 (mulf u v) shapeCasts_S65536x768_S65536x6x128) transposes_S65536x6x128_S6x65536x128_1_0_2) bitsLt_bf16_f32

end Reference

/-! ## The kernel's steps -/
section Kernel
open Cert.SguIdeal Cert.SguIdeal.Gen

def kprod (x : FVec Ideal S256x1024 .f32) (w : FVec Ideal S1024x1792 .bf16) : FVec Ideal S256x1792 .f32 :=
  matmul dot_S256x1024_S1024x1792_S256x1792_1_0_0_1_n_n none (truncf .bf16 x bitsLt_bf16_f32) w (constant S256x1792 .f32 0x00000000#32)

def kupart (p : FVec Ideal S256x1792 .f32) : FVec Ideal S256x768 .f32 := extractStridedSlice S256x768 ![0, 0] p slices_S256x1792_o0_0_S256x768

def kvpart (p : FVec Ideal S256x1792 .f32) : FVec Ideal S256x768 .f32 := extractStridedSlice S256x768 ![0, 768] p slices_S256x1792_o0_768_S256x768

def kgelu (s : Shape) (x : FVec Ideal s .f32) : FVec Ideal s .f32 :=
  mulf x (addf (mulf (broadcast s (Scalar.ofBits (F := Ideal) .f32 0x3F000000#32)) (tanh (mulf x (addf (broadcast s (Scalar.ofBits (F := Ideal) .f32 0x3F4C422A#32)) (mulf (broadcast s (Named.named (F := Ideal) κ "gelu_c2" 0x3D122279#32)) (mulf x x)))))) (broadcast s (Scalar.ofBits (F := Ideal) .f32 0x3F000000#32)))

def kmean (z : FVec Ideal S256x768 .f32) : FVec Ideal S256x1 .f32 :=
  divf (shapeCast S256x1 (multiReduction .add [1] S256 z 0x00000000#32 reduces_S256x768_S256 (.inl rfl) rfl) shapeCasts_S256_S256x1)
    (broadcast S256x1 (Scalar.ofBits (F := Ideal) .f32 0x44400000#32))

def kcentred (z : FVec Ideal S256x768 .f32) : FVec Ideal S256x768 .f32 :=
  subf z (broadcastTo S256x768 (kmean z) broadcasts_S256x1_S256x768)

def kspread (d : FVec Ideal S256x768 .f32) (g b : FVec Ideal S1x768 .f32) : FVec Ideal S256x768 .f32 :=
  addf (mulf (mulf d (broadcastTo S256x768 (rsqrt (addf (kmean (mulf d d)) (broadcast S256x1 (Scalar.ofBits (F := Ideal) .f32 0x3727C5AC#32)))) broadcasts_S256x1_S256x768))
    (broadcastTo S256x768 g broadcasts_S1x768_S256x768)) (broadcastTo S256x768 b broadcasts_S1x768_S256x768)

def knorm (z : FVec Ideal S256x768 .f32) (g b : FVec Ideal S1x768 .f32) : FVec Ideal S256x768 .f32 := kspread (kcentred z) g b

def kcausal (w : FVec Ideal S1x128x128 .f32) : FVec Ideal S128x128 .bf16 :=
  truncf .bf16 (select k0_pay2 (shapeCast S128x128 w shapeCasts_S1x128x128_S128x128) (broadcast S128x128 (Scalar.ofBits (F := Ideal) .f32 0x00000000#32))) bitsLt_bf16_f32

/-- Two groups' columns of a block of 128 rows, each mixed by its own weights, and the bias added. -/
def kmixed (wa wb : FVec Ideal S1x128x128 .f32) (b : FVec Ideal S128x128 .f32) (v : FVec Ideal S128x128 .bf16) : FVec Ideal S128x128 .f32 :=
  addf (select k0_pay3 (matmul dot_S128x128_S128x128_S128x128_1_0_0_1_n_n none (kcausal wa) v (constant S128x128 .f32 0x00000000#32))
    (matmul dot_S128x128_S128x128_S128x128_1_0_0_1_n_n none (kcausal wb) v (constant S128x128 .f32 0x00000000#32))) b

def kout (wa wb : FVec Ideal S1x128x128 .f32) (b : FVec Ideal S128x128 .f32) (v : FVec Ideal S128x128 .bf16) (u : FVec Ideal S128x128 .f32) : FVec Ideal S1x128x128 .bf16 :=
  shapeCast S1x128x128 (truncf (F := Ideal) .bf16 (mulf (kgelu S128x128 u) (kmixed wa wb b v)) bitsLt_bf16_f32) shapeCasts_S128x128_S1x128x128

end Kernel

/-! ## A tile through each step -/

variable {r : ℕ}

theorem tile_prod {x X} {w : FVec Ideal Cert.SguIdeal.S1024x1792 .bf16} {W} (hx : Tile r 0 x X) (hw : Tile 0 0 w W) : Tile r 0 (kprod x w) (PROD X W) := by
  intro i j I J hI hJ
  pointwise [kprod, PROD]
  exact Finset.sum_congr rfl fun k _ => congrArg₂ (· * ·) (hx i k I k hI (by omega)) (hw k j k J (by omega) hJ)

theorem tile_upart {p P} (hp : Tile r 0 p P) : Tile r 0 (kupart p) (UPART P) := by
  intro i j I J hI hJ
  pointwise [kupart, UPART]
  exact hp _ _ _ _ hI (by simp; omega)

theorem tile_vpart {p P} (hp : Tile r 0 p P) : Tile r 0 (kvpart p) (VPART P) := by
  intro i j I J hI hJ
  pointwise [kvpart, VPART]
  exact hp _ _ _ _ hI (by simp; omega)

theorem bits_half : Ideal.ofBits .f32 0x3F000000#32 = ((1 / 2 : ℝ) : EReal) := by
  simp [Ideal.ofBits, Ideal.ieee, -EReal.coe_mul]; norm_num

theorem bits_root : Ideal.ofBits .f32 0x3F4C422A#32 = ((6693141 / 8388608 : ℝ) : EReal) := by
  simp [Ideal.ofBits, Ideal.ieee, -EReal.coe_mul]; norm_num

theorem bits_cubic : Ideal.ofBits .f32 0x3D372713#32 = ((12003091 / 268435456 : ℝ) : EReal) := by
  simp [Ideal.ofBits, Ideal.ieee, -EReal.coe_mul]; norm_num

/-- The polynomial under the hyperbolic tangent, multiplied out. -/
theorem poly_eq (x : EReal) : x * (((6693141 / 8388608 : ℝ) : EReal) + (((6693141 / 8388608) * (12003091 / 268435456) : ℝ) : EReal) * (x * x))
    = ((6693141 / 8388608 : ℝ) : EReal) * (x + ((12003091 / 268435456 : ℝ) : EReal) * (x * x * x)) := by
  induction x with
  | coe x => norm_cast; ring
  | bot =>
    rw [EReal.bot_mul_bot, EReal.top_mul_bot, EReal.coe_mul_top_of_pos (by norm_num), EReal.coe_mul_bot_of_pos (by norm_num), EReal.coe_add_top,
      EReal.bot_mul_top, EReal.bot_add, EReal.coe_mul_bot_of_pos (by norm_num)]
  | top =>
    rw [EReal.top_mul_top, EReal.top_mul_top, EReal.coe_mul_top_of_pos (by norm_num), EReal.coe_mul_top_of_pos (by norm_num), EReal.coe_add_top,
      EReal.top_mul_top, EReal.top_add_top, EReal.coe_mul_top_of_pos (by norm_num)]

theorem tanh_real (x : EReal) : ∃ y : ℝ, Ideal.tanh x = y := by
  induction x with
  | coe x => exact ⟨_, rfl⟩
  | bot => exact ⟨-1, by show (-1 : EReal) = _; simp⟩
  | top => exact ⟨1, by show (1 : EReal) = _; simp⟩

theorem gelu_eq (x : EReal) : x * (Ideal.ofBits .f32 0x3F000000#32 * Ideal.tanh (x * (Ideal.ofBits .f32 0x3F4C422A#32
    + Named.named (F := Ideal) (φ := .f32) κ "gelu_c2" 0x3D122279#32 * (x * x))) + Ideal.ofBits .f32 0x3F000000#32)
    = x * (Ideal.ofBits .f32 0x3F000000#32 * (1 + Ideal.tanh (Ideal.ofBits .f32 0x3F4C422A#32 * (x + Ideal.ofBits .f32 0x3D372713#32 * (x * x * x))))) := by
  have h2 : Named.named (F := Ideal) (φ := .f32) κ "gelu_c2" 0x3D122279#32 = (((6693141 / 8388608) * (12003091 / 268435456) : ℝ) : EReal) := rfl
  rw [h2, bits_half, bits_root, bits_cubic, poly_eq]
  congr 1
  obtain ⟨y, hy⟩ := tanh_real (((6693141 / 8388608 : ℝ) : EReal) * (x + ((12003091 / 268435456 : ℝ) : EReal) * (x * x * x)))
  rw [hy]
  norm_cast
  ring

theorem tile_gelu {c n k : ℕ} {x : (⟨2, ![n, k]⟩ : Shape).Idx → EReal} {X} (hx : Tile r c x X) : Tile r c (kgelu ⟨2, ![n, k]⟩ x) (GELU X) := by
  intro i j I J hI hJ
  pointwise [kgelu, GELU]
  rw [hx i j I J hI hJ]
  exact gelu_eq _

theorem tile_mean {z Z} (hz : Tile r 0 z Z) : Tile r 0 (kmean z) (MEAN Z) := by
  intro i j I J hI hJ
  pointwise [kmean, MEAN]
  rw [Finset.sum_congr rfl fun k _ => hz i k I k hI (by omega)]

theorem tile_centred {z Z} (hz : Tile r 0 z Z) : Tile r 0 (kcentred z) (CENTRED Z) := by
  intro i j I J hI hJ
  pointwise [kcentred, CENTRED]
  rw [hz i j I J hI hJ, tile_mean hz i 0 I 0 hI rfl]

theorem tile_mul {z Z} (hz : Tile r 0 z Z) : Tile r 0 (mulf (F := Ideal) (φ := .f32) (s := Cert.SguIdeal.S256x768) z z) (mulf (F := Ideal) (φ := .f32) (s := Cert.SguRefIdeal.S65536x768) Z Z) := by
  intro i j I J hI hJ
  pointwise
  rw [hz i j I J hI hJ]

theorem tile_spread {d D} {g b : FVec Ideal Cert.SguIdeal.S1x768 .f32} {G B : FVec Ideal Cert.SguRefIdeal.S768 .f32} (hd : Tile r 0 d D)
    (hg : ∀ k : Fin 768, g (ix2 0 k) = G (ix1 k)) (hb : ∀ k : Fin 768, b (ix2 0 k) = B (ix1 k)) : Tile r 0 (kspread d g b) (SPREAD D G B) := by
  intro i j I J hI hJ
  obtain rfl : J = j := Fin.ext (by omega)
  pointwise [kspread, SPREAD]
  rw [hd i J I J hI hJ, tile_mean (tile_mul hd) i 0 I 0 hI rfl, hg, hb]

theorem tile_norm {z Z} {g b : FVec Ideal Cert.SguIdeal.S1x768 .f32} {G B : FVec Ideal Cert.SguRefIdeal.S768 .f32} (hz : Tile r 0 z Z)
    (hg : ∀ k : Fin 768, g (ix2 0 k) = G (ix1 k)) (hb : ∀ k : Fin 768, b (ix2 0 k) = B (ix1 k)) : Tile r 0 (knorm z g b) (NORM Z G B) :=
  tile_spread (tile_centred hz) hg hb

/-- The mask of the first group's columns, read as a choice. -/
theorem choose_lt {α : Type} (j : Fin 128) (a b : α) :
    Scalar.select (IntOp.cmpi CmpIPredicate.slt (BitVec.ofNat 32 (j : ℕ)) 64#32) a b = if (j : ℕ) < 64 then a else b := by
  have e : IntOp.cmpi CmpIPredicate.slt (BitVec.ofNat 32 (j : ℕ)) 64#32 = if (j : ℕ) < 64 then 1#1 else 0#1 := by
    revert j; decide
  rw [e]; split_ifs <;> rfl

theorem mixed_at (v w b) (q : Fin 512) (R : Fin 65536) (i : Fin 128) (J : Fin 768) (g : Fin 12) (hR : (R : ℕ) = q * 128 + i) (hg : (g : ℕ) = J / 64) :
    MIXED v (CAUSAL w) b (ix2 R J) = (∑ x : Fin 128, Scalar.select (IntOp.cmpi CmpIPredicate.sge (BitVec.ofNat 32 ↑i) (BitVec.ofNat 32 ↑x))
      (v (ix2 ⟨q * 128 + x, by omega⟩ J) * w (ix3 g i x)) 0) + b (ix2 g i) := by
  have eg : (⟨J / 64, by omega⟩ : Fin 12) = g := Fin.ext hg.symm
  have em : (R : ℕ) % 128 = i := by omega
  have ei : (⟨R % 128, by omega⟩ : Fin 128) = i := Fin.ext em
  have ev : ∀ x : Fin 128, (⟨R / 128 * 128 + x, by omega⟩ : Fin 65536) = ⟨q * 128 + x, by omega⟩ := fun x => Fin.ext (by show (R : ℕ) / 128 * 128 + x = q * 128 + x; omega)
  have ea : ∀ y : BitVec 32, IntOp.addi y 0#32 = y := fun y => BitVec.add_zero y
  pointwise [MIXED, CAUSAL]
  simp only [eg, ei, ev, em, ea]

/-- The two groups' columns of a block of rows, mixed. -/
theorem tile_mixed {p : ℕ} (q : Fin 512) {wa wb b v V W B} (ga gb : Fin 12) (ea : (ga : ℕ) = 2 * p) (eb : (gb : ℕ) = 2 * p + 1)
    (ha : ∀ i x : Fin 128, wa (ix3 0 i x) = W (ix3 ga i x)) (hb : ∀ i x : Fin 128, wb (ix3 0 i x) = W (ix3 gb i x))
    (hB : ∀ (i j : Fin 128) (g : Fin 12), (g : ℕ) = (p * 128 + j) / 64 → b (ix2 i j) = B (ix2 g i)) (hv : Tile (q * 128) (p * 128) v V) :
    Tile (q * 128) (p * 128) (kmixed wa wb b v) (MIXED V (CAUSAL W) B) := by
  intro i j I J hI hJ
  pointwise [kmixed, kcausal, Cert.SguIdeal.Gen.k0_pay2, Cert.SguIdeal.Gen.k0_pay3]
  rw [choose_lt]
  split_ifs with hj
  · rw [mixed_at V W B q I i J ga hI (by omega), hB i j ga (by omega)]
    refine congrArg (· + _) (Finset.sum_congr rfl fun x _ => ?_)
    rw [ha, hv x j ⟨q * 128 + x, by omega⟩ J rfl hJ, mul_comm]
  · rw [mixed_at V W B q I i J gb hI (by omega), hB i j gb (by omega)]
    refine congrArg (· + _) (Finset.sum_congr rfl fun x _ => ?_)
    rw [hb, hv x j ⟨q * 128 + x, by omega⟩ J rfl hJ, mul_comm]

/-- The gated block, stored as one head's rows. -/
theorem head_out {p : ℕ} (q : Fin 512) {wa wb b v u V W B U} (ga gb : Fin 12) (ea : (ga : ℕ) = 2 * p) (eb : (gb : ℕ) = 2 * p + 1)
    (ha : ∀ i x : Fin 128, wa (ix3 0 i x) = W (ix3 ga i x)) (hb : ∀ i x : Fin 128, wb (ix3 0 i x) = W (ix3 gb i x))
    (hB : ∀ (i j : Fin 128) (g : Fin 12), (g : ℕ) = (p * 128 + j) / 64 → b (ix2 i j) = B (ix2 g i)) (hv : Tile (q * 128) (p * 128) v V)
    (hu : Tile (q * 128) (p * 128) u U) (i j : Fin 128) (P : Fin 6) (I : Fin 65536) (eP : (P : ℕ) = p) (hI : (I : ℕ) = q * 128 + i) :
    kout wa wb b v u (ix3 0 i j) = OUT (GELU U) (MIXED V (CAUSAL W) B) (ix3 P I j) := by
  obtain rfl := eP
  pointwise [kout, OUT]
  rw [tile_mixed q ga gb ea eb ha hb hB hv i j I ⟨P * 128 + j, by omega⟩ hI rfl, tile_gelu hu i j I ⟨P * 128 + j, by omega⟩ hI rfl]

end Cert.SguIdeal.Match
-- ==== Proof.Sgu.Value.lean ====
module

public import proofs.«01_k».proof.Proof.Sgu.Rows
public import proofs.«01_k».proof.Proof.Gen.SguIdeal.Value
public import proofs.«01_k».proof.Proof.Gen.SguRefIdeal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.SguIdeal.Match
open Cert.SguIdeal Cert.SguIdeal.Gen

variable (m : (ℓ : Loc nD τ sig) → Buf (Elt Ideal) ℓ)
variable (c : Dev nD) (t : Fin cfg0.N)

theorem idx : ∀ t : Fin cfg0.N, win0_0.index t = ![(grid0.coords t 0).val, 0] ∧ win0_1.index t = ![0, 0]
    ∧ win0_2.index t = ![0, 0] ∧ win0_3.index t = ![0, 0] ∧ win0_4.index t = ![0, 0, 0] ∧ win0_5.index t = ![0, 0]
    ∧ win0_6.index t = ![0, (grid0.coords t 0).val, 0] ∧ win0_7.index t = ![0, (grid0.coords t 0).val, 0] :=
  (by decide +kernel : ∀ t : Fin grid0.N, _)

/-- The point's first row. -/
abbrev row : ℕ := (grid0.coords t 0).val * 512

theorem Tile.elim {n k N K r c : ℕ} {A : (⟨2, ![n, k]⟩ : Shape).Idx → EReal} {G : (⟨2, ![N, K]⟩ : Shape).Idx → EReal} (h : Tile r c A G)
    (x : (⟨2, ![n, k]⟩ : Shape).Idx) (y : (⟨2, ![N, K]⟩ : Shape).Idx) (h0 : (y 0 : ℕ) = r + (x 0 : ℕ)) (h1 : (y 1 : ℕ) = c + (x 1 : ℕ)) : A x = G y := by
  have hx : x = ix2 (x 0) (x 1) := by funext a; match a with | 0 => rfl | 1 => rfl
  have hy : y = ix2 (y 0) (y 1) := by funext a; match a with | 0 => rfl | 1 => rfl
  rw [hx, hy]
  exact h _ _ _ _ h0 h1

theorem from_idx {s : Shape} {α : Type} (f : s.Idx → α) (k : s.Idx) (g : α) (h : ∀ y, y = k → f y = g) : f k = g := h _ rfl

theorem tile_x (r : ℕ) (inb) : Tile (row t + r) 0 (View.ld (Val := Elt Ideal) (e' := .f32) (iblk m c 0 t) (Rect.unit (s := S512x1024) ![r, 0] ![256, 1024] inb)) (m ((c : Thread nD τ).loc main_arg0)) := by
  intro i j I J hI hJ
  unfold row at hI
  pointwise
  blk_point [iblk, V, idx t]

theorem tile_w : Tile 0 0 (iblk m c 1 t) (m ((c : Thread nD τ).loc main_arg1)) := by
  intro i j I J hI hJ
  blk_point [iblk, V, idx t]

theorem ln2 (k : Fin 768) : (iblk m c 2 t : FVec Ideal S1x768 .f32) (ix2 0 k) = (m ((c : Thread nD τ).loc main_arg2) : FVec Ideal S768 .f32) (ix1 k) := by
  blk_point [iblk, V, idx t]

theorem ln3 (k : Fin 768) : (iblk m c 3 t : FVec Ideal S1x768 .f32) (ix2 0 k) = (m ((c : Thread nD τ).loc main_arg3) : FVec Ideal S768 .f32) (ix1 k) := by
  blk_point [iblk, V, idx t]

theorem ws_at (a : ℕ) (inb) (g : Fin 12) (hg : (g : ℕ) = a) (i j : Fin 128) :
    View.ld (Val := Elt Ideal) (e' := .f32) (iblk m c 4 t) (Rect.unit (s := S12x128x128) ![a, 0, 0] ![1, 128, 128] inb) (ix3 0 i j)
      = (m ((c : Thread nD τ).loc main_arg4) : FVec Ideal S12x128x128 .f32) (ix3 g i j) := by
  pointwise
  blk_point [iblk, V, idx t]

theorem bias_at (a : ℕ) (inb) (i j : Fin 128) (g : Fin 12) (hg : (g : ℕ) = (a + j) / 64) :
    View.ld (Val := Elt Ideal) (e' := .f32) (iblk m c 5 t) (Rect.unit (s := S128x768) ![0, a] ![128, 128] inb) (ix2 i j)
      = (m ((c : Thread nD τ).loc main_arg5) : FVec Ideal S12x128 .f32) (ix2 g i) := by
  pointwise
  blk_point [iblk, V, idx t]

abbrev P : FVec Ideal Cert.SguRefIdeal.S65536x1792 .f32 := PROD (m ((c : Thread nD τ).loc main_arg0)) (m ((c : Thread nD τ).loc main_arg1))

abbrev NV : FVec Ideal Cert.SguRefIdeal.S65536x768 .f32 := NORM (GELU (VPART (P m c))) (m ((c : Thread nD τ).loc main_arg2)) (m ((c : Thread nD τ).loc main_arg3))

abbrev OUT6 : FVec Ideal Cert.SguRefIdeal.S6x65536x128 .bf16 :=
  OUT (GELU (UPART (P m c))) (MIXED (NV m c) (CAUSAL (m ((c : Thread nD τ).loc main_arg4))) (m ((c : Thread nD τ).loc main_arg5)))

abbrev OUT7 : FVec Ideal Cert.SguRefIdeal.S2x65536x128 .bf16 := QPART (P m c)

/-- A chunk of a kept array is a tile of what the array is a tile of. -/
theorem tile_chunk {r a b : ℕ} {V : S512x768.Idx → EReal} {G : Cert.SguRefIdeal.S65536x768.Idx → EReal} (h : Tile r 0 V G) (inb) :
    Tile (r + a) b (fun j => V ((Rect.unit (s := S512x768) ![a, b] ![128, 128] inb).idx j)) G := by
  intro i j I J hI hJ
  refine h.elim _ _ ?_ ?_
  · simp; omega
  · simp; omega

/-- One stored piece of the gated rows. -/
theorem piece {a b d e : ℕ} {ia ib ie iv} {A : S1x128x128.Idx → EReal} {VN U : S512x768.Idx → EReal}
    (fV : Tile (row t) 0 VN (NV m c)) (fU : Tile (row t) 0 U (UPART (P m c)))
    (hA : A = kout (View.ld (Val := Elt Ideal) (e' := .f32) (iblk m c 4 t) (Rect.unit (s := S12x128x128) ![a, 0, 0] ![1, 128, 128] ia))
      (View.ld (Val := Elt Ideal) (e' := .f32) (iblk m c 4 t) (Rect.unit (s := S12x128x128) ![b, 0, 0] ![1, 128, 128] ib))
      (View.ld (Val := Elt Ideal) (e' := .f32) (iblk m c 5 t) (Rect.unit (s := S128x768) ![0, e] ![128, 128] ie))
      (fun j => VN ((Rect.unit (s := S512x768) ![d, e] ![128, 128] iv).idx j)) (fun j => U ((Rect.unit (s := S512x768) ![d, e] ![128, 128] iv).idx j)))
    (h : a = 2 * (e / 128) ∧ b = 2 * (e / 128) + 1 ∧ e % 128 = 0 ∧ d % 128 = 0 ∧ d + 128 ≤ 512 ∧ e + 128 ≤ 768)
    (x : S1x128x128.Idx) (y : S6x65536x128.Idx) (h0 : (y 0 : ℕ) = e / 128) (h1 : (y 1 : ℕ) = row t + d + (x 1 : ℕ)) (h2 : (y 2 : ℕ) = (x 2 : ℕ)) :
    A x = OUT6 m c y := by
  obtain ⟨ha, hb, he, hd, hd', he'⟩ := h
  obtain ⟨p, rfl⟩ : ∃ p, e = p * 128 := ⟨e / 128, by omega⟩
  rw [Nat.mul_div_cancel _ (by norm_num)] at ha hb h0
  have ht : (grid0.coords t 0).val < 128 := (grid0.coords t 0).isLt
  have hx : x = ix3 0 (x 1) (x 2) := by funext a; match a with | 0 => exact Subsingleton.elim (α := Fin 1) _ _ | 1 => rfl | 2 => rfl
  have hy : y = ix3 (y 0) (y 1) (x 2) := by funext a; match a with | 0 => rfl | 1 => rfl | 2 => exact Fin.ext h2
  have er : row t + d = ((⟨(grid0.coords t 0).val * 4 + d / 128, by omega⟩ : Fin 512) : ℕ) * 128 := by unfold row; show _ = ((grid0.coords t 0).val * 4 + d / 128) * 128; omega
  have fV' := tile_chunk fV (a := d) (b := p * 128) iv
  have fU' := tile_chunk fU (a := d) (b := p * 128) iv
  rw [er] at fV' fU' h1
  rw [hA, hx, hy]
  exact head_out (p := p) ⟨(grid0.coords t 0).val * 4 + d / 128, by omega⟩ ⟨a, by omega⟩ ⟨b, by omega⟩ ha hb
    (fun i x => ws_at m c t a ia _ rfl i x) (fun i x => ws_at m c t b ib _ rfl i x)
    (fun i j g hg => bias_at m c t (p * 128) ie i j g hg) fV' fU' _ _ _ _ h0 h1

/-- What the two halves of the block store, as the steps named in Proof/Sgu/Rows.lean. -/
theorem stored_u0 (x w) : k0_pay5 (F := Ideal) x w = kupart (kprod x w) := by
  simp only [k0_pay5, k0_pay4, shapeCast_self]; rfl

theorem stored_u1 (x w) : k0_pay14 (F := Ideal) x w = kupart (kprod x w) := by
  simp only [k0_pay14, k0_pay13, shapeCast_self]; rfl

theorem stored_v0 (x w g b) : k0_pay10 (F := Ideal) (k0_pay6 g) (k0_pay7 b) (k0_pay8 x w) (k0_pay9 x w) = knorm (kgelu S256x768 (kvpart (kprod x w))) g b := by
  simp only [k0_pay10, k0_pay9, k0_pay8, k0_pay7, k0_pay6, k0_pay4, shapeCast_self]; rfl

theorem stored_v1 (x w g b) : k0_pay17 (F := Ideal) (k0_pay15 x w) (k0_pay16 x w) (Named.named κ "gelu_c2" 0x3D122279#32) g b
    = knorm (kgelu S256x768 (kvpart (kprod x w))) g b := by
  simp only [k0_pay17, k0_pay16, k0_pay15, k0_pay13, shapeCast_self]; rfl

set_option maxHeartbeats 4000000 in
theorem final6 : (dats m 0 c).arrAt 6 (cfgs 0).N = OUT6 m c := by
  refine (dats m 0 c).arrAt_eq_of_covers 6 _ (by decide +kernel) fun t _ y => ?_
  blk_simp
  rw [after0_6]
  unfold outsAt0
  frame_out
  simp only [View.readCov_eq_canon']
  generalize hV : View.canon (Val := Elt Ideal) (s := cc0_scratch1.ty.shape) (e := cc0_scratch1.ty.elt) _ = VN
  generalize hU : View.canon (Val := Elt Ideal) (s := cc0_scratch0.ty.shape) (e := cc0_scratch0.ty.elt) _ = U
  have fP0 := tile_prod (tile_x m c t 0 inb_S512x1024_S256x1024_0_0) (tile_w m c t)
  have fP1 := tile_prod (tile_x m c t 256 inb_S512x1024_S256x1024_256_0) (tile_w m c t)
  have fU : Tile (row t) 0 U (UPART (P m c)) := by
    intro i j I J eI eJ
    rw [← hU]
    refine from_idx _ _ _ fun y hy => ?_
    have y0 : ((y 0 : Fin _) : ℕ) = (i : ℕ) := by subst hy; rfl
    have y1 : ((y 1 : Fin _) : ℕ) = (j : ℕ) := by subst hy; rfl
    clear hy
    canon_tiles x h
    · rw [stored_u1]
      exact (tile_upart fP1).elim x (ix2 I J) (by show (I : ℕ) = _; omega) (by show (J : ℕ) = _; omega)
    · rw [stored_u0]
      exact (tile_upart fP0).elim x (ix2 I J) (by show (I : ℕ) = _; omega) (by show (J : ℕ) = _; omega)
  have fV : Tile (row t) 0 VN (NV m c) := by
    intro i j I J eI eJ
    rw [← hV]
    refine from_idx _ _ _ fun y hy => ?_
    have y0 : ((y 0 : Fin _) : ℕ) = (i : ℕ) := by subst hy; rfl
    have y1 : ((y 1 : Fin _) : ℕ) = (j : ℕ) := by subst hy; rfl
    clear hy
    canon_tiles x h
    · rw [stored_v1]
      exact (tile_norm (tile_gelu (tile_vpart fP1)) (ln2 m c t) (ln3 m c t)).elim x (ix2 I J) (by show (I : ℕ) = _; omega) (by show (J : ℕ) = _; omega)
    · rw [stored_v0]
      exact (tile_norm (tile_gelu (tile_vpart fP0)) (ln2 m c t) (ln3 m c t)).elim x (ix2 I J) (by show (I : ℕ) = _; omega) (by show (J : ℕ) = _; omega)
  clear hU hV fP0 fP1
  canon_tiles x h
  all_goals
    simp only [k0_pay1, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, shapeCast_self]
    refine piece m c t fV fU rfl (by decide) x _ ?_ ?_ ?_
    · blk_simp [idx t]; omega
    · unfold row; blk_simp [idx t]; omega
    · blk_simp [idx t]; omega

/-- One stored piece of the last columns, passed on as they are. -/
theorem piece7 {h r : ℕ} {A : S1x256x128.Idx → EReal} {p : S256x1792.Idx → EReal} (hp : Tile (row t + r) 0 p (P m c)) {sl}
    (hA : A = shapeCast S1x256x128 (truncf (F := Ideal) .bf16 (extractStridedSlice S256x128 ![0, 1536 + h * 128] p sl) bitsLt_bf16_f32) shapeCasts_S256x128_S1x256x128)
    (x : S1x256x128.Idx) (y : S2x65536x128.Idx) (h0 : (y 0 : ℕ) = h) (h1 : (y 1 : ℕ) = row t + r + (x 1 : ℕ)) (h2 : (y 2 : ℕ) = (x 2 : ℕ)) :
    A x = OUT7 m c y := by
  have hx : x = ix3 0 (x 1) (x 2) := by funext a; match a with | 0 => exact Subsingleton.elim (α := Fin 1) _ _ | 1 => rfl | 2 => rfl
  have hy : y = ix3 (y 0) (y 1) (x 2) := by funext a; match a with | 0 => rfl | 1 => rfl | 2 => exact Fin.ext h2
  rw [hA, hx, hy]
  generalize x 1 = i, x 2 = j, y 0 = a, y 1 = b at *
  pointwise [QPART]
  refine hp.elim _ _ ?_ ?_
  · show (b : ℕ) = row t + r + (i : ℕ)
    omega
  · show 1536 + ((a : ℕ) * 128 + (j : ℕ)) = 0 + (1536 + h * 128 + (j : ℕ))
    omega

theorem final7 : (dats m 0 c).arrAt 7 (cfgs 0).N = OUT7 m c := by
  refine (dats m 0 c).arrAt_eq_of_covers 7 _ (by decide +kernel) fun t _ y => ?_
  blk_simp
  rw [after0_7]
  unfold outsAt0
  frame_out
  have fP0 := tile_prod (tile_x m c t 0 inb_S512x1024_S256x1024_0_0) (tile_w m c t)
  have fP1 := tile_prod (tile_x m c t 256 inb_S512x1024_S256x1024_256_0) (tile_w m c t)
  canon_tiles x h
  · simp only [k0_pay20, k0_pay13, shapeCast_self]
    refine piece7 m c t (h := 1) fP1 rfl x _ ?_ ?_ ?_ <;> (try unfold row) <;> blk_simp [idx t] <;> omega
  · simp only [k0_pay19, k0_pay18, k0_pay13, shapeCast_self]
    refine piece7 m c t (h := 0) fP1 rfl x _ ?_ ?_ ?_ <;> (try unfold row) <;> blk_simp [idx t] <;> omega
  · simp only [k0_pay12, k0_pay4, shapeCast_self]
    refine piece7 m c t (h := 1) fP0 rfl x _ ?_ ?_ ?_ <;> (try unfold row) <;> blk_simp [idx t] <;> omega
  · simp only [k0_pay11, k0_pay4, shapeCast_self]
    refine piece7 m c t (h := 0) fP0 rfl x _ ?_ ?_ ?_ <;> (try unfold row) <;> blk_simp [idx t] <;> omega

theorem algebraic : Cert.algebraic_SguIdeal_SguRefIdeal (hSguIdeal := Cert.SguIdeal.Gen.facts) (hSguRefIdeal := Cert.SguRefIdeal.Gen.facts) :=
  fun m ρ m' ρ' _ hag => ⟨fun c => OUT6 m c, fun c => OUT7 m c,
    (θ_run _ _ _).mono (fun _ h c => ⟨(h c).1.trans (final6 m c), (h c).2.1.trans (final7 m c), (h c).2.2⟩) (Cert.SguIdeal.Value.run_blocks m ρ),
    (θ_run _ _ _).mono (fun _ h c => ⟨(h c).1.trans (by
        obtain ⟨e0, e1, e2, e3, e4, e5⟩ := hag c
        dsimp only [OUT6, NV, P]
        rw [← e0, ← e1, ← e2, ← e3, ← e4, ← e5]
        rfl), (h c).2.1.trans (by
        obtain ⟨e0, e1, e2, e3, e4, e5⟩ := hag c
        dsimp only [OUT7, P]
        rw [← e0, ← e1]
        rfl), (h c).2.2⟩) (Cert.SguRefIdeal.Value.run m' ρ')⟩

end Cert.SguIdeal.Match
-- ==== Proof.Proj.Value.lean ====
/-
  THE PROJECTION TO QUERIES, KEYS AND VALUES. Each grid point multiplies its 1024 rows with the whole weight matrix and stores the
  product one head's 128 columns at a time; read back by head, row and column this is the reference's one
  product, split into heads and transposed.
-/
module

public import proofs.«01_k».proof.Proof.Gen.ProjIdeal.Value
public import proofs.«01_k».proof.Proof.Gen.ProjRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.ProjIdeal.Match
open Cert.ProjIdeal Cert.ProjIdeal.Gen

variable (m : (ℓ : Loc nD τ sig) → Buf (Elt Ideal) ℓ)

abbrev REF (X : FVec Ideal Cert.ProjRefIdeal.S65536x1024 .f32) (W : FVec Ideal Cert.ProjRefIdeal.S1024x2560 .f32) :
    FVec Ideal Cert.ProjRefIdeal.S20x65536x128 .bf16 :=
  truncf .bf16 (transpose Cert.ProjRefIdeal.S20x65536x128 [1, 0, 2]
    (shapeCast _ (Host.dotGeneral Cert.ProjRefIdeal.dot_S65536x1024_S1024x2560_S65536x2560_1_0_0_1_n_n none X W)
      Cert.ProjRefIdeal.Gen.shapeCasts_S65536x2560_S65536x20x128)
    Cert.ProjRefIdeal.Gen.transposes_S65536x20x128_S20x65536x128_1_0_2) Cert.ProjRefIdeal.Gen.bitsLt_bf16_f32

theorem idx : ∀ t : Fin cfg0.N, win0_0.index t = ![(grid0.coords t 0).val, 0] ∧ win0_1.index t = ![0, 0]
    ∧ win0_2.index t = ![0, (grid0.coords t 0).val, 0] :=
  (by decide +kernel : ∀ t : Fin grid0.N, _)

/-- One entry of the point's product is one entry of the reference. -/
theorem core (c : Dev nD) (t : Fin cfg0.N) (y : S20x1024x128.Idx) (i : S1024x2560.Idx) (j : S20x65536x128.Idx)
    (hi0 : (i 0 : ℕ) = y 1) (hi1 : (i 1 : ℕ) = y 0 * 128 + y 2)
    (hj0 : (j 0 : ℕ) = y 0) (hj1 : (j 1 : ℕ) = (grid0.coords t 0).val * 1024 + y 1) (hj2 : (j 2 : ℕ) = y 2) :
    k0_pay3 (F := Ideal) (iblk m c 0 t) (iblk m c 1 t) i
      = REF (m ((c : Thread nD τ).loc main_arg0)) (m ((c : Thread nD τ).loc main_arg1)) j := by
  pointwise [k0_pay3, REF]
  blk_point [iblk, V, idx t]

theorem point (c : Dev nD) (t : Fin cfg0.N) (y) : out0_2 (iblk m c 0 t) (iblk m c 1 t) y
    = REF (m ((c : Thread nD τ).loc main_arg0)) (m ((c : Thread nD τ).loc main_arg1)) (((cfg0.win 2).blk t).view.emb y) := by
  obtain_idx i : S1024x2560 := [(y 1 : ℕ), (y 0 : ℕ) * 128 + (y 2 : ℕ)] with hi
  refine Eq.trans (b := k0_pay3 (F := Ideal) (iblk m c 0 t) (iblk m c 1 t) i) ?_ (core m c t y i _ hi0 hi1 ?_ ?_ ?_)
  · canon_tiles x h
    all_goals (open_payloads; pointwise; blk_ext)
  all_goals (blk_simp [idx t] <;> try omega)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

/-- The claim. -/
theorem algebraic : Cert.algebraic_ProjIdeal_ProjRefIdeal (hProjIdeal := Cert.ProjIdeal.Gen.facts) (hProjRefIdeal := Cert.ProjRefIdeal.Gen.facts) :=
  fun m ρ m' ρ' _ hag => ⟨fun c => REF (m ((c : Thread nD τ).loc main_arg0)) (m ((c : Thread nD τ).loc main_arg1)),
    (θ_run _ _ _).mono (fun _ h c => ⟨(h c).1.trans (final m c), (h c).2⟩) (Cert.ProjIdeal.Value.run_blocks m ρ),
    (θ_run _ _ _).mono (fun _ h c => ⟨(h c).1.trans (by rw [(hag c).1, (hag c).2]), (h c).2⟩)
      (Cert.ProjRefIdeal.Value.run m' ρ')⟩

end Cert.ProjIdeal.Match
-- ==== Proof.Mkv.Value.lean ====
/-
  THE PROJECTION OF THE MEMORY'S KEYS AND VALUES. Each grid point stores the product of its 512 rows with the whole weight matrix,
  so the output array is the reference's one product.
-/
module

public import proofs.«01_k».proof.Proof.Gen.MkvIdeal.Value
public import proofs.«01_k».proof.Proof.Gen.MkvRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.MkvIdeal.Match
open Cert.MkvIdeal Cert.MkvIdeal.Gen

variable (m : (ℓ : Loc nD τ sig) → Buf (Elt Ideal) ℓ)

abbrev REF (X : FVec Ideal Cert.MkvRefIdeal.S8192x1024 .f32) (W : FVec Ideal Cert.MkvRefIdeal.S1024x512 .f32) :
    FVec Ideal Cert.MkvRefIdeal.S8192x512 .bf16 :=
  truncf .bf16 (Host.dotGeneral Cert.MkvRefIdeal.dot_S8192x1024_S1024x512_S8192x512_1_0_0_1_n_n none X W)
    Cert.MkvRefIdeal.Gen.bitsLt_bf16_f32

theorem idx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The claim. -/
theorem algebraic : Cert.algebraic_MkvIdeal_MkvRefIdeal (hMkvIdeal := Cert.MkvIdeal.Gen.facts) (hMkvRefIdeal := Cert.MkvRefIdeal.Gen.facts) :=
  fun m ρ m' ρ' _ hag => ⟨fun c => REF (m ((c : Thread nD τ).loc main_arg0)) (m ((c : Thread nD τ).loc main_arg1)),
    (θ_run _ _ _).mono (fun _ h c => ⟨(h c).1.trans (final m c), (h c).2⟩) (Cert.MkvIdeal.Value.run_blocks m ρ),
    (θ_run _ _ _).mono (fun _ h c => ⟨(h c).1.trans (by rw [(hag c).1, (hag c).2]), (h c).2⟩)
      (Cert.MkvRefIdeal.Value.run m' ρ')⟩

end Cert.MkvIdeal.Match
-- ==== Proof.Tail.Rows.lean ====
/-
  THE LAYER'S TAIL, ROW BY ROW. Every step of the tail other than its three products works on a row alone, and a product needs of
  its left operand the row alone too. So a tile of the rows, cut out of the whole array, goes through each step to the
  same tile of the step's result. `Tile r c A G` says that the array `A` is the tile of `G` at row `r`, column `c`.
-/
module

public import proofs.«01_k».proof.Proof.Gen.TailIdeal.Skeleton
public import proofs.«01_k».proof.Proof.Gen.TailRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo

namespace Cert.TailIdeal.Match

/-- `A` is the tile of `G` whose first row is `r` and whose first column is `c`. -/
def Tile {n k N K : ℕ} (r c : ℕ) (A : (⟨2, ![n, k]⟩ : Shape).Idx → EReal) (G : (⟨2, ![N, K]⟩ : Shape).Idx → EReal) : Prop :=
  ∀ (i : Fin n) (j : Fin k) (I : Fin N) (J : Fin K), (I : ℕ) = r + i → (J : ℕ) = c + j → A (ix2 i j) = G (ix2 I J)

/-! ## The reference's steps, over variables -/
section Reference
open Cert.TailRefIdeal Cert.TailRefIdeal.Gen

def MIX (a : FVec Ideal S6x65536x128 .bf16) (b : FVec Ideal S2x65536x128 .bf16) : FVec Ideal S65536x1024 .f32 :=
  concatenate S65536x1024 1 [⟨S65536x768, (shapeCast _ (transpose S65536x6x128 [1, 0, 2] (extf .f32 a bitsLt_bf16_f32) transposes_S6x65536x128_S65536x6x128_1_0_2) shapeCasts_S65536x6x128_S65536x768)⟩, ⟨S65536x256, (shapeCast _ (transpose S65536x2x128 [1, 0, 2] (extf .f32 b bitsLt_bf16_f32) transposes_S2x65536x128_S65536x2x128_1_0_2) shapeCasts_S65536x2x128_S65536x256)⟩] concatenates_S65536x768_S65536x256_S65536x1024_d1

def RES (x f : FVec Ideal S65536x1024 .f32) : FVec Ideal S65536x1024 .f32 :=
  addf (mulf (broadcastInDim S65536x1024 ![] bcast_S_S65536x1024 (constant S_ .f32 0x3FD744FD#32)) x) f

def OUTP (x : FVec Ideal S65536x1024 .f32) (w : FVec Ideal S1024x1024 .f32) : FVec Ideal S65536x1024 .f32 :=
  Host.dotGeneral dot_S65536x1024_S1024x1024_S65536x1024_1_0_0_1_n_n none x w

def UP (x : FVec Ideal S65536x1024 .f32) (w : FVec Ideal S1024x2816 .f32) : FVec Ideal S65536x2816 .f32 :=
  Host.dotGeneral dot_S65536x1024_S1024x2816_S65536x2816_1_0_0_1_n_n none x w

def DOWN (x : FVec Ideal S65536x2816 .f32) (w : FVec Ideal S2816x1024 .f32) : FVec Ideal S65536x1024 .f32 :=
  Host.dotGeneral dot_S65536x2816_S2816x1024_S65536x1024_1_0_0_1_n_n none x w

def GATED (a b : FVec Ideal S65536x2816 .f32) : FVec Ideal S65536x2816 .f32 :=
  mulf (mulf a (Host.divf (broadcastInDim S65536x2816 ![] bcast_S_S65536x2816 (constant S_ .f32 0x3F800000#32)) (addf (broadcastInDim S65536x2816 ![] bcast_S_S65536x2816 (constant S_ .f32 0x3F800000#32)) (Host.exp (Host.negf a))))) b

def MEAN (z : FVec Ideal S65536x1024 .f32) : FVec Ideal S65536x1 .f32 :=
  Host.divf (broadcastInDim S65536x1 ![0] bcast_S65536_S65536x1_0 (Host.reduceAdd z (constant S_ .f32 0x00000000#32) reducesTo_S65536x1024_S65536_d1 h_S_)) (broadcastInDim S65536x1 ![] bcast_S_S65536x1 (constant S_ .f32 0x44800000#32))

def CENTRED (z : FVec Ideal S65536x1024 .f32) : FVec Ideal S65536x1024 .f32 :=
  subf z (broadcastInDim S65536x1024 ![0, 1] bcast_S65536x1_S65536x1024_0_1 (MEAN z))

def SPREAD (d : FVec Ideal S65536x1024 .f32) (g b : FVec Ideal S1024 .f32) : FVec Ideal S65536x1024 .f32 :=
  addf (mulf (mulf d (broadcastInDim S65536x1024 ![0, 1] bcast_S65536x1_S65536x1024_0_1 (Host.rsqrt (addf (MEAN (mulf d d)) (broadcastInDim S65536x1 ![] bcast_S_S65536x1 (constant S_ .f32 0x3727C5AC#32)))))) (broadcastInDim S65536x1024 ![0, 1] bcast_S1x1024_S65536x1024_0_1 (broadcastInDim S1x1024 ![1] bcast_S1024_S1x1024_1 g))) (broadcastInDim S65536x1024 ![0, 1] bcast_S1x1024_S65536x1024_0_1 (broadcastInDim S1x1024 ![1] bcast_S1024_S1x1024_1 b))

def NORM (z : FVec Ideal S65536x1024 .f32) (g b : FVec Ideal S1024 .f32) : FVec Ideal S65536x1024 .f32 := SPREAD (CENTRED z) g b

/-- The attention's rows after their projection, the residual and the first norm. -/
def FIRST (a : FVec Ideal S6x65536x128 .bf16) (b : FVec Ideal S2x65536x128 .bf16) (x : FVec Ideal S65536x1024 .f32) (w : FVec Ideal S1024x1024 .f32)
    (g1 b1 : FVec Ideal S1024 .f32) : FVec Ideal S65536x1024 .f32 := NORM (RES x (OUTP (MIX a b) w)) g1 b1

/-- The gated hidden layer. -/
def HIDDEN (x1 : FVec Ideal S65536x1024 .f32) (wg wu : FVec Ideal S1024x2816 .f32) : FVec Ideal S65536x2816 .f32 := GATED (UP x1 wg) (UP x1 wu)

def LAST (x1 : FVec Ideal S65536x1024 .f32) (wg wu : FVec Ideal S1024x2816 .f32) (wd : FVec Ideal S2816x1024 .f32)
    (g2 b2 : FVec Ideal S1024 .f32) : FVec Ideal S65536x1024 .f32 := NORM (RES x1 (DOWN (HIDDEN x1 wg wu) wd)) g2 b2

end Reference

/-! ## The kernel's steps -/
section Kernel
open Cert.TailIdeal Cert.TailIdeal.Gen

def kres (x f : FVec Ideal S256x1024 .f32) : FVec Ideal S256x1024 .f32 :=
  addf (mulf (broadcast S256x1024 (Scalar.ofBits (F := Ideal) .f32 0x3FD744FD#32)) x) f

def kmean (z : FVec Ideal S256x1024 .f32) : FVec Ideal S256x1 .f32 :=
  divf (shapeCast S256x1 (multiReduction .add [1] S256 z 0x00000000#32 reduces_S256x1024_S256 (.inl rfl) rfl) shapeCasts_S256_S256x1)
    (broadcast S256x1 (Scalar.ofBits (F := Ideal) .f32 0x44800000#32))

def kcentred (z : FVec Ideal S256x1024 .f32) : FVec Ideal S256x1024 .f32 :=
  subf z (broadcastTo S256x1024 (kmean z) broadcasts_S256x1_S256x1024)

def kspread (d : FVec Ideal S256x1024 .f32) (g b : FVec Ideal S1x1024 .f32) : FVec Ideal S256x1024 .f32 :=
  addf (mulf (mulf d (broadcastTo S256x1024 (rsqrt (addf (kmean (mulf d d)) (broadcast S256x1 (Scalar.ofBits (F := Ideal) .f32 0x3727C5AC#32)))) broadcasts_S256x1_S256x1024))
    (broadcastTo S256x1024 g broadcasts_S1x1024_S256x1024)) (broadcastTo S256x1024 b broadcasts_S1x1024_S256x1024)

def knorm (z : FVec Ideal S256x1024 .f32) (g b : FVec Ideal S1x1024 .f32) : FVec Ideal S256x1024 .f32 := kspread (kcentred z) g b

def koutp (x : FVec Ideal S256x1024 .bf16) (w : FVec Ideal S1024x1024 .bf16) : FVec Ideal S256x1024 .f32 :=
  matmul dot_S256x1024_S1024x1024_S256x1024_1_0_0_1_n_n none x w (constant S256x1024 .f32 0x00000000#32)

def kup (x : FVec Ideal S256x1024 .bf16) (w : FVec Ideal S1024x256 .bf16) : FVec Ideal S256x256 .f32 :=
  matmul dot_S256x1024_S1024x256_S256x256_1_0_0_1_n_n none x w (constant S256x256 .f32 0x00000000#32)

def kdown (x : FVec Ideal S256x2816 .bf16) (w : FVec Ideal S2816x1024 .bf16) : FVec Ideal S256x1024 .f32 :=
  matmul dot_S256x2816_S2816x1024_S256x1024_1_0_0_1_n_n none x w (constant S256x1024 .f32 0x00000000#32)

/-- The eight heads' columns side by side. -/
def kmix (a0 a1 a2 a3 a4 a5 a6 a7 : FVec Ideal S1x256x128 .bf16) : FVec Ideal S256x1024 .bf16 :=
  concatenate S256x1024 1 [⟨S256x128, shapeCast S256x128 a0 shapeCasts_S1x256x128_S256x128⟩, ⟨S256x128, shapeCast S256x128 a1 shapeCasts_S1x256x128_S256x128⟩, ⟨S256x128, shapeCast S256x128 a2 shapeCasts_S1x256x128_S256x128⟩, ⟨S256x128, shapeCast S256x128 a3 shapeCasts_S1x256x128_S256x128⟩, ⟨S256x128, shapeCast S256x128 a4 shapeCasts_S1x256x128_S256x128⟩, ⟨S256x128, shapeCast S256x128 a5 shapeCasts_S1x256x128_S256x128⟩, ⟨S256x128, shapeCast S256x128 a6 shapeCasts_S1x256x128_S256x128⟩, ⟨S256x128, shapeCast S256x128 a7 shapeCasts_S1x256x128_S256x128⟩] concatenates_S256x128_S256x128_S256x128_S256x128_S256x128_S256x128_S256x128_S256x128_S256x1024_d1

def kgated (a b : FVec Ideal S256x256 .f32) : FVec Ideal S256x256 .f32 := mulf (mulf a (logistic a)) b

end Kernel

/-! ## A tile through each step -/

variable {r : ℕ}

theorem tile_res {x f X F'} (hx : Tile r 0 x X) (hf : Tile r 0 f F') : Tile r 0 (kres x f) (RES X F') := by
  intro i j I J hI hJ
  pointwise [kres, RES]
  rw [hx i j I J hI hJ, hf i j I J hI hJ]

theorem tile_outp {x X} {w : FVec Ideal Cert.TailIdeal.S1024x1024 .bf16} {W} (hx : Tile r 0 x X) (hw : Tile 0 0 w W) : Tile r 0 (koutp x w) (OUTP X W) := by
  intro i j I J hI hJ
  pointwise [koutp, OUTP]
  exact Finset.sum_congr rfl fun k _ => congrArg₂ (· * ·) (hx i k I k hI (by omega)) (hw k j k J (by omega) hJ)

theorem tile_up {c : ℕ} {x X w W} (hx : Tile r 0 x X) (hw : Tile 0 c w W) : Tile r c (kup x w) (UP X W) := by
  intro i j I J hI hJ
  pointwise [kup, UP]
  exact Finset.sum_congr rfl fun k _ => congrArg₂ (· * ·) (hx i k I k hI (by omega)) (hw k j k J (by omega) hJ)

theorem tile_down {x X} {w : FVec Ideal Cert.TailIdeal.S2816x1024 .bf16} {W} (hx : Tile r 0 x X) (hw : Tile 0 0 w W) : Tile r 0 (kdown x w) (DOWN X W) := by
  intro i j I J hI hJ
  pointwise [kdown, DOWN]
  exact Finset.sum_congr rfl fun k _ => congrArg₂ (· * ·) (hx i k I k hI (by omega)) (hw k j k J (by omega) hJ)

theorem tile_gated {c : ℕ} {a b A B} (ha : Tile r c a A) (hb : Tile r c b B) : Tile r c (kgated a b) (GATED A B) := by
  intro i j I J hI hJ
  pointwise [kgated, GATED]
  rw [ha i j I J hI hJ, hb i j I J hI hJ]
  rfl

theorem tile_mean {z Z} (hz : Tile r 0 z Z) : Tile r 0 (kmean z) (MEAN Z) := by
  intro i j I J hI hJ
  pointwise [kmean, MEAN]
  rw [Finset.sum_congr rfl fun k _ => hz i k I k hI (by omega)]

theorem tile_centred {z Z} (hz : Tile r 0 z Z) : Tile r 0 (kcentred z) (CENTRED Z) := by
  intro i j I J hI hJ
  pointwise [kcentred, CENTRED]
  rw [hz i j I J hI hJ, tile_mean hz i 0 I 0 hI rfl]

theorem tile_mul {d D} (hd : Tile r 0 d D) :
    Tile r 0 (mulf (F := Ideal) (s := Cert.TailIdeal.S256x1024) (φ := .f32) d d) (mulf (F := Ideal) (s := Cert.TailRefIdeal.S65536x1024) (φ := .f32) D D) := by
  intro i j I J hI hJ
  pointwise
  rw [hd i j I J hI hJ]

theorem tile_spread {d D} {g b : FVec Ideal Cert.TailIdeal.S1x1024 .f32} {G B : FVec Ideal Cert.TailRefIdeal.S1024 .f32} (hd : Tile r 0 d D)
    (hg : ∀ k : Fin 1024, g (ix2 0 k) = G (ix1 k)) (hb : ∀ k : Fin 1024, b (ix2 0 k) = B (ix1 k)) : Tile r 0 (kspread d g b) (SPREAD D G B) := by
  intro i j I J hI hJ
  obtain rfl : J = j := Fin.ext (by omega)
  pointwise [kspread, SPREAD]
  rw [hd i J I J hI hJ, tile_mean (tile_mul hd) i 0 I 0 hI rfl, hg, hb]

theorem tile_norm {z Z} {g b : FVec Ideal Cert.TailIdeal.S1x1024 .f32} {G B : FVec Ideal Cert.TailRefIdeal.S1024 .f32} (hz : Tile r 0 z Z)
    (hg : ∀ k : Fin 1024, g (ix2 0 k) = G (ix1 k)) (hb : ∀ k : Fin 1024, b (ix2 0 k) = B (ix1 k)) : Tile r 0 (knorm z g b) (NORM Z G B) :=
  tile_spread (tile_centred hz) hg hb

/-- `a` is rows `r …` of head `h` of `A`. -/
def Head {H : ℕ} (r : ℕ) (h : Fin H) (a : (⟨3, ![1, 256, 128]⟩ : Shape).Idx → EReal) (A : (⟨3, ![H, 65536, 128]⟩ : Shape).Idx → EReal) : Prop :=
  ∀ (i : Fin 256) (l : Fin 128) (I : Fin 65536), (I : ℕ) = r + i → a (ix3 0 i l) = A (ix3 h I l)

theorem Head.at {H : ℕ} {h : Fin H} {a A} (hd : Head r h a A) {i : Fin 256} {I : Fin 65536} (hI : (I : ℕ) = r + i) (l : Fin 128) (h' : Fin H) (l' : Fin 128)
    (e1 : (h' : ℕ) = h) (e2 : (l' : ℕ) = l) : a (ix3 0 i l) = A (ix3 h' I l') := by
  obtain rfl := Fin.ext e1
  obtain rfl := Fin.ext e2
  exact hd i _ I hI

theorem tile_mix {a0 a1 a2 a3 a4 a5 a6 a7 A B} (h0 : Head r 0 a0 A) (h1 : Head r 1 a1 A) (h2 : Head r 2 a2 A) (h3 : Head r 3 a3 A) (h4 : Head r 4 a4 A)
    (h5 : Head r 5 a5 A) (h6 : Head r 0 a6 B) (h7 : Head r 1 a7 B) : Tile r 0 (kmix a0 a1 a2 a3 a4 a5 a6 a7) (MIX A B) := by
  intro i j I J hI hJ
  obtain rfl : J = j := Fin.ext (by omega)
  pointwise [kmix, MIX]
  split_ifs
  all_goals first
    | (refine Eq.trans ?_ (dif_pos (show (J : ℕ) < 768 by omega)).symm; refine h0.at hI _ _ _ ?_ ?_ <;> first | (show (J : ℕ) / 128 = 0; omega) | (show (J : ℕ) % 128 = (J : ℕ); omega); done)
    | (refine Eq.trans ?_ (dif_pos (show (J : ℕ) < 768 by omega)).symm; refine h1.at hI _ _ _ ?_ ?_ <;> first | (show (J : ℕ) / 128 = 1; omega) | (show (J : ℕ) % 128 = (J : ℕ) - 128; omega); done)
    | (refine Eq.trans ?_ (dif_pos (show (J : ℕ) < 768 by omega)).symm; refine h2.at hI _ _ _ ?_ ?_ <;> first | (show (J : ℕ) / 128 = 2; omega) | (show (J : ℕ) % 128 = (J : ℕ) - 128 - 128; omega); done)
    | (refine Eq.trans ?_ (dif_pos (show (J : ℕ) < 768 by omega)).symm; refine h3.at hI _ _ _ ?_ ?_ <;> first | (show (J : ℕ) / 128 = 3; omega) | (show (J : ℕ) % 128 = (J : ℕ) - 128 - 128 - 128; omega); done)
    | (refine Eq.trans ?_ (dif_pos (show (J : ℕ) < 768 by omega)).symm; refine h4.at hI _ _ _ ?_ ?_ <;> first | (show (J : ℕ) / 128 = 4; omega) | (show (J : ℕ) % 128 = (J : ℕ) - 128 - 128 - 128 - 128; omega); done)
    | (refine Eq.trans ?_ (dif_pos (show (J : ℕ) < 768 by omega)).symm; refine h5.at hI _ _ _ ?_ ?_ <;> first | (show (J : ℕ) / 128 = 5; omega) | (show (J : ℕ) % 128 = (J : ℕ) - 128 - 128 - 128 - 128 - 128; omega); done)
    | (refine Eq.trans ?_ (dif_neg (show ¬ (J : ℕ) < 768 by omega)).symm; refine h6.at hI _ _ _ ?_ ?_ <;> first | (show ((J : ℕ) - 768) / 128 = 0; omega) | (show ((J : ℕ) - 768) % 128 = (J : ℕ) - 128 - 128 - 128 - 128 - 128 - 128; omega); done)
    | (refine Eq.trans ?_ (dif_neg (show ¬ (J : ℕ) < 768 by omega)).symm; refine h7.at hI _ _ _ ?_ ?_ <;> first | (show ((J : ℕ) - 768) / 128 = 1; omega) | (show ((J : ℕ) - 768) % 128 = (J : ℕ) - 128 - 128 - 128 - 128 - 128 - 128 - 128; omega); done)

end Cert.TailIdeal.Match
-- ==== Proof.Tail.Value.lean ====
/-
  THE LAYER'S TAIL. A grid point takes 512 rows in two groups of 256, and keeps what is between its steps in three buffers of its own:
  the rows after the first norm (once for the residual, once for the products) and the gated hidden layer, stored 256
  columns at a time. Read back group by group, each is the tile of the reference's array at the group's rows, and so is what the point writes.
-/
module

public import proofs.«01_k».proof.Proof.Gen.TailIdeal.Value
public import proofs.«01_k».proof.Proof.Tail.Rows
public import Idealize.ShloMosaic.Lib.Pipeline.ReadBack
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.TailIdeal.Match
open Cert.TailIdeal Cert.TailIdeal.Gen

variable (m : (ℓ : Loc nD τ sig) → Buf (Elt Ideal) ℓ)

theorem idx : ∀ t : Fin cfg0.N, win0_0.index t = ![0, (grid0.coords t 0).val, 0] ∧ win0_1.index t = ![0, (grid0.coords t 0).val, 0]
    ∧ win0_2.index t = ![(grid0.coords t 0).val, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![(grid0.coords t 0).val, 0] :=
  (by decide +kernel : ∀ t : Fin grid0.N, _)

variable (c : Dev nD) (t : Fin cfg0.N)

/-- The point's first row. -/
abbrev row : ℕ := (grid0.coords t 0).val * 512

theorem Tile.elim {n k N K r c : ℕ} {A : (⟨2, ![n, k]⟩ : Shape).Idx → EReal} {G : (⟨2, ![N, K]⟩ : Shape).Idx → EReal} (h : Tile r c A G)
    (x : (⟨2, ![n, k]⟩ : Shape).Idx) (y : (⟨2, ![N, K]⟩ : Shape).Idx) (h0 : (y 0 : ℕ) = r + (x 0 : ℕ)) (h1 : (y 1 : ℕ) = c + (x 1 : ℕ)) : A x = G y := by
  have hx : x = ix2 (x 0) (x 1) := by funext a; match a with | 0 => rfl | 1 => rfl
  have hy : y = ix2 (y 0) (y 1) := by funext a; match a with | 0 => rfl | 1 => rfl
  rw [hx, hy]
  exact h _ _ _ _ h0 h1

theorem from_idx {s : Shape} {α : Type} (f : s.Idx → α) (k : s.Idx) (g : α) (h : ∀ y, y = k → f y = g) : f k = g := h _ rfl

theorem tile_w_out : Tile 0 0 (iblk m c 3 t) (m ((c : Thread nD τ).loc main_arg3)) := by
  intro i j I J hI hJ
  blk_point [iblk, V, idx t]

theorem tile_w_gate (k : ℕ) (inb) : Tile 0 k (View.ld (Val := Elt Ideal) (e' := .bf16) (iblk m c 6 t) (Rect.unit (s := S1024x2816) ![0, k] ![1024, 256] inb)) (m ((c : Thread nD τ).loc main_arg6)) := by
  intro i j I J hI hJ
  pointwise
  blk_point [iblk, V, idx t]

theorem tile_w_up (k : ℕ) (inb) : Tile 0 k (View.ld (Val := Elt Ideal) (e' := .bf16) (iblk m c 7 t) (Rect.unit (s := S1024x2816) ![0, k] ![1024, 256] inb)) (m ((c : Thread nD τ).loc main_arg7)) := by
  intro i j I J hI hJ
  pointwise
  blk_point [iblk, V, idx t]

theorem tile_w_down : Tile 0 0 (iblk m c 8 t) (m ((c : Thread nD τ).loc main_arg8)) := by
  intro i j I J hI hJ
  blk_point [iblk, V, idx t]

theorem ln4 (k : Fin 1024) : (iblk m c 4 t : FVec Ideal S1x1024 .f32) (ix2 0 k) = (m ((c : Thread nD τ).loc main_arg4) : FVec Ideal S1024 .f32) (ix1 k) := by
  blk_point [iblk, V, idx t]
theorem ln5 (k : Fin 1024) : (iblk m c 5 t : FVec Ideal S1x1024 .f32) (ix2 0 k) = (m ((c : Thread nD τ).loc main_arg5) : FVec Ideal S1024 .f32) (ix1 k) := by
  blk_point [iblk, V, idx t]
theorem ln9 (k : Fin 1024) : (iblk m c 9 t : FVec Ideal S1x1024 .f32) (ix2 0 k) = (m ((c : Thread nD τ).loc main_arg9) : FVec Ideal S1024 .f32) (ix1 k) := by
  blk_point [iblk, V, idx t]
theorem ln10 (k : Fin 1024) : (iblk m c 10 t : FVec Ideal S1x1024 .f32) (ix2 0 k) = (m ((c : Thread nD τ).loc main_arg10) : FVec Ideal S1024 .f32) (ix1 k) := by
  blk_point [iblk, V, idx t]

theorem tile_x (r : ℕ) (inb) : Tile (row t + r) 0 (View.ld (Val := Elt Ideal) (e' := .f32) (iblk m c 2 t) (Rect.unit (s := S512x1024) ![r, 0] ![256, 1024] inb)) (m ((c : Thread nD τ).loc main_arg2)) := by
  intro i j I J hI hJ
  unfold row at hI
  pointwise
  blk_point [iblk, V, idx t]

theorem head_mix (r : ℕ) (h : Fin 6) (inb) : Head (row t + r) h (View.ld (Val := Elt Ideal) (e' := .bf16) (iblk m c 0 t) (Rect.unit (s := S6x512x128) ![h, r, 0] ![1, 256, 128] inb)) (m ((c : Thread nD τ).loc main_arg0)) := by
  intro i l I hI
  unfold row at hI
  pointwise
  blk_point [iblk, V, idx t]

theorem head_mo (r : ℕ) (h : Fin 2) (inb) : Head (row t + r) h (View.ld (Val := Elt Ideal) (e' := .bf16) (iblk m c 1 t) (Rect.unit (s := S2x512x128) ![h, r, 0] ![1, 256, 128] inb)) (m ((c : Thread nD τ).loc main_arg1)) := by
  intro i l I hI
  unfold row at hI
  pointwise
  blk_point [iblk, V, idx t]

abbrev X1 : FVec Ideal Cert.TailRefIdeal.S65536x1024 .f32 := FIRST (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))

abbrev H : FVec Ideal Cert.TailRefIdeal.S65536x2816 .f32 := HIDDEN (X1 m c) (m ((c : Thread nD τ).loc main_arg6)) (m ((c : Thread nD τ).loc main_arg7))

abbrev OUT : FVec Ideal Cert.TailRefIdeal.S65536x1024 .f32 := LAST (X1 m c) (m ((c : Thread nD τ).loc main_arg6)) (m ((c : Thread nD τ).loc main_arg7))
  (m ((c : Thread nD τ).loc main_arg8)) (m ((c : Thread nD τ).loc main_arg9)) (m ((c : Thread nD τ).loc main_arg10))

theorem final : (dats m 0 c).arrAt 11 (cfgs 0).N = OUT m c := by
  refine (dats m 0 c).arrAt_eq_of_covers 11 _ (by decide +kernel) fun t _ y => ?_
  blk_simp
  rw [after0_11]
  unfold outsAt0
  frame_out
  generalize hH0 : View.readCov (Val := Elt Ideal) (View.whole cc0_scratch2) _ (Rect.unit _ _ inb_S512x2816_S256x2816_0_0).toLoadRect = H0
  generalize hH1 : View.readCov (Val := Elt Ideal) (View.whole cc0_scratch2) _ (Rect.unit _ _ inb_S512x2816_S256x2816_256_0).toLoadRect = H1
  generalize hB0 : View.readCov (Val := Elt Ideal) (View.whole cc0_scratch0) _ (Rect.unit _ _ inb_S512x1024_S256x1024_0_0).toLoadRect = B0
  generalize hB1 : View.readCov (Val := Elt Ideal) (View.whole cc0_scratch0) _ (Rect.unit _ _ inb_S512x1024_S256x1024_256_0).toLoadRect = B1
  generalize hA0 : View.readCov (Val := Elt Ideal) (View.whole cc0_scratch1) _ (Rect.unit _ _ inb_S512x1024_S256x1024_0_0).toLoadRect = A0 at hH0 hH1
  generalize hA1 : View.readCov (Val := Elt Ideal) (View.whole cc0_scratch1) _ (Rect.unit _ _ inb_S512x1024_S256x1024_256_0).toLoadRect = A1 at hH0 hH1
  rw [View.readCov_cons_toLoadRect] at hA1 hB1
  rw [View.readCov_skip _ _ _ _ _ rfl, View.readCov_cons_toLoadRect] at hA0 hB0
  have fA0 : Tile (row t + 0) 0 A0 (X1 m c) := by
    rw [← hA0]
    simp only [k0_pay6, k0_pay4, k0_pay3, k0_pay2, shapeCast_self]
    exact tile_norm (tile_res (tile_x m c t 0 _) (tile_outp (tile_mix (head_mix m c t 0 0 _) (head_mix m c t 0 1 _) (head_mix m c t 0 2 _) (head_mix m c t 0 3 _)
      (head_mix m c t 0 4 _) (head_mix m c t 0 5 _) (head_mo m c t 0 0 _) (head_mo m c t 0 1 _)) (tile_w_out m c t))) (ln4 m c t) (ln5 m c t)
  have fB0 : Tile (row t + 0) 0 B0 (X1 m c) := by
    rw [← hB0]
    simp only [k0_pay5, k0_pay4, k0_pay3, k0_pay2, shapeCast_self]
    exact tile_norm (tile_res (tile_x m c t 0 _) (tile_outp (tile_mix (head_mix m c t 0 0 _) (head_mix m c t 0 1 _) (head_mix m c t 0 2 _) (head_mix m c t 0 3 _)
      (head_mix m c t 0 4 _) (head_mix m c t 0 5 _) (head_mo m c t 0 0 _) (head_mo m c t 0 1 _)) (tile_w_out m c t))) (ln4 m c t) (ln5 m c t)
  have fA1 : Tile (row t + 256) 0 A1 (X1 m c) := by
    rw [← hA1]
    simp only [k0_pay17, k0_pay15, k0_pay14, k0_pay13, k0_pay12, k0_pay11, k0_pay10, k0_pay9, k0_pay8, k0_pay7, shapeCast_self]
    exact tile_norm (tile_res (tile_x m c t 256 _) (tile_outp (tile_mix (head_mix m c t 256 0 _) (head_mix m c t 256 1 _) (head_mix m c t 256 2 _) (head_mix m c t 256 3 _)
      (head_mix m c t 256 4 _) (head_mix m c t 256 5 _) (head_mo m c t 256 0 _) (head_mo m c t 256 1 _)) (tile_w_out m c t))) (ln4 m c t) (ln5 m c t)
  have fB1 : Tile (row t + 256) 0 B1 (X1 m c) := by
    rw [← hB1]
    simp only [k0_pay16, k0_pay15, k0_pay14, k0_pay13, k0_pay12, k0_pay11, k0_pay10, k0_pay9, k0_pay8, k0_pay7, shapeCast_self]
    exact tile_norm (tile_res (tile_x m c t 256 _) (tile_outp (tile_mix (head_mix m c t 256 0 _) (head_mix m c t 256 1 _) (head_mix m c t 256 2 _) (head_mix m c t 256 3 _)
      (head_mix m c t 256 4 _) (head_mix m c t 256 5 _) (head_mo m c t 256 0 _) (head_mo m c t 256 1 _)) (tile_w_out m c t))) (ln4 m c t) (ln5 m c t)
  clear hA0 hA1 hB0 hB1
  have fH0 : Tile (row t + 0) 0 H0 (H m c) := by
    intro i j I J eI eJ
    rw [← hH0, View.readCov_eq_canon']
    clear hH0 hH1
    beta_reduce
    refine from_idx _ _ _ fun y hy => ?_
    have y0 : ((y 0 : Fin _) : ℕ) = 0 + (i : ℕ) := by subst hy; simp
    have y1 : ((y 1 : Fin _) : ℕ) = 0 + (j : ℕ) := by subst hy; simp
    clear hy
    have ilt := i.isLt
    canon_tiles x h
    all_goals first
      | (exfalso; omega)
      | (simp only [k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, shapeCast_self]
         refine Tile.elim (tile_gated (tile_up fA0 (tile_w_gate m c t _ _)) (tile_up fA0 (tile_w_up m c t _ _))) x (ix2 I J) ?_ ?_
         · show (I : ℕ) = _
           omega
         · show (J : ℕ) = _
           omega)
  have fH1 : Tile (row t + 256) 0 H1 (H m c) := by
    intro i j I J eI eJ
    rw [← hH1, View.readCov_eq_canon']
    clear hH0 hH1
    beta_reduce
    refine from_idx _ _ _ fun y hy => ?_
    have y0 : ((y 0 : Fin _) : ℕ) = 256 + (i : ℕ) := by subst hy; simp
    have y1 : ((y 1 : Fin _) : ℕ) = 0 + (j : ℕ) := by subst hy; simp
    clear hy
    have ilt := i.isLt
    canon_tiles x h
    all_goals first
      | (exfalso; omega)
      | (simp only [k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, shapeCast_self]
         refine Tile.elim (tile_gated (tile_up fA1 (tile_w_gate m c t _ _)) (tile_up fA1 (tile_w_up m c t _ _))) x (ix2 I J) ?_ ?_
         · show (I : ℕ) = _
           omega
         · show (J : ℕ) = _
           omega)
  clear hH0 hH1
  canon_tiles x h
  · refine Tile.elim (r := row t + 256) (c := 0) ?_ x _ ?_ ?_
    · simp only [k0_pay1, k0_pay52, k0_pay53, k0_pay54, k0_pay55, shapeCast_self]
      exact tile_norm (tile_res fB1 (tile_down fH1 (tile_w_down m c t))) (ln9 m c t) (ln10 m c t)
    · unfold row; blk_simp [idx t]; omega
    · blk_simp [idx t]; omega
  · refine Tile.elim (r := row t + 0) (c := 0) ?_ x _ ?_ ?_
    · simp only [k0_pay51, k0_pay46, k0_pay47, k0_pay48, k0_pay49, k0_pay50, shapeCast_self]
      exact tile_norm (tile_res fB0 (tile_down fH0 (tile_w_down m c t))) (ln9 m c t) (ln10 m c t)
    · unfold row; blk_simp [idx t]; omega
    · blk_simp [idx t]; omega

theorem algebraic : Cert.algebraic_TailIdeal_TailRefIdeal (hTailIdeal := Cert.TailIdeal.Gen.facts) (hTailRefIdeal := Cert.TailRefIdeal.Gen.facts) :=
  fun m ρ m' ρ' _ hag => ⟨fun c => OUT m c,
    (θ_run _ _ _).mono (fun _ h c => ⟨(h c).1.trans (final m c), (h c).2⟩) (Cert.TailIdeal.Value.run_blocks m ρ),
    (θ_run _ _ _).mono (fun _ h c => ⟨(h c).1.trans (by
      obtain ⟨e0, e1, e2, e3, e4, e5, e6, e7, e8, e9, e10⟩ := hag c
      dsimp only [OUT, X1]
      rw [← e0, ← e1, ← e2, ← e3, ← e4, ← e5, ← e6, ← e7, ← e8, ← e9, ← e10]
      rfl), (h c).2⟩) (Cert.TailRefIdeal.Value.run m' ρ')⟩

end Cert.TailIdeal.Match
-- ==== Proof.lean ====
module

public import proofs.«01_k».proof.Defs
public import proofs.«01_k».proof.Proof.Gen.Dil
public import proofs.«01_k».proof.Proof.Gen.DilIdeal
public import proofs.«01_k».proof.Proof.Dil.Frame
public import proofs.«01_k».proof.Proof.DilIdeal.Frame
public import proofs.«01_k».proof.Proof.Gen.Xattn
public import proofs.«01_k».proof.Proof.Gen.XattnIdeal
public import proofs.«01_k».proof.Proof.Gen.Xattn.Frame
public import proofs.«01_k».proof.Proof.Gen.XattnIdeal.Frame
public import proofs.«01_k».proof.Proof.Gen.XattnRefIdeal
public import proofs.«01_k».proof.Proof.Gen.XattnRefIdeal.Run
public import proofs.«01_k».proof.Proof.Xattn.Value
public import proofs.«01_k».proof.Proof.Gen.Sgu
public import proofs.«01_k».proof.Proof.Gen.SguIdeal
public import proofs.«01_k».proof.Proof.Gen.Sgu.Frame
public import proofs.«01_k».proof.Proof.Gen.SguIdeal.Frame
public import proofs.«01_k».proof.Proof.Gen.SguRefIdeal
public import proofs.«01_k».proof.Proof.Gen.SguRefIdeal.Run
public import proofs.«01_k».proof.Proof.Sgu.Value
public import proofs.«01_k».proof.Proof.Gen.Proj
public import proofs.«01_k».proof.Proof.Gen.ProjIdeal
public import proofs.«01_k».proof.Proof.Gen.Proj.Frame
public import proofs.«01_k».proof.Proof.Gen.ProjIdeal.Frame
public import proofs.«01_k».proof.Proof.Gen.ProjRefIdeal
public import proofs.«01_k».proof.Proof.Gen.ProjRefIdeal.Run
public import proofs.«01_k».proof.Proof.Proj.Value
public import proofs.«01_k».proof.Proof.Gen.Mkv
public import proofs.«01_k».proof.Proof.Gen.MkvIdeal
public import proofs.«01_k».proof.Proof.Gen.Mkv.Frame
public import proofs.«01_k».proof.Proof.Gen.MkvIdeal.Frame
public import proofs.«01_k».proof.Proof.Gen.MkvRefIdeal
public import proofs.«01_k».proof.Proof.Gen.MkvRefIdeal.Run
public import proofs.«01_k».proof.Proof.Mkv.Value
public import proofs.«01_k».proof.Proof.Gen.Tail
public import proofs.«01_k».proof.Proof.Gen.TailIdeal
public import proofs.«01_k».proof.Proof.Gen.Tail.Frame
public import proofs.«01_k».proof.Proof.Gen.TailIdeal.Frame
public import proofs.«01_k».proof.Proof.Gen.TailRefIdeal
public import proofs.«01_k».proof.Proof.Gen.TailRefIdeal.Run
public import proofs.«01_k».proof.Proof.Tail.Value
public import Idealize.ShloMosaic.Adequacy
public import Idealize.ShloMosaic.Init

@[expose] public section

noncomputable section

namespace Cert.Proof

open Idealize.ShloMosaic Idealize.SL.Sem

/-! A reference runs on the host alone: its arguments stay, and it has no semaphore. -/

theorem frame_xattn_ref : Cert.quiescent_XattnRefIdeal (hXattnRefIdeal := Cert.XattnRefIdeal.Gen.facts) := fun m ρ _ =>
  (θ_run Cert.XattnRefIdeal.defs _ _).mono (fun r h => ⟨fun c => (h c).2, sem_eq_zero_of_no_sems (by decide) r.2⟩)
    (Cert.XattnRefIdeal.Value.run (F := Ideal) m ρ)

theorem frame_sgu_ref : Cert.quiescent_SguRefIdeal (hSguRefIdeal := Cert.SguRefIdeal.Gen.facts) := fun m ρ _ =>
  (θ_run Cert.SguRefIdeal.defs _ _).mono (fun r h => ⟨fun c => (h c).2.2, sem_eq_zero_of_no_sems (by decide) r.2⟩)
    (Cert.SguRefIdeal.Value.run (F := Ideal) m ρ)

theorem frame_proj_ref : Cert.quiescent_ProjRefIdeal (hProjRefIdeal := Cert.ProjRefIdeal.Gen.facts) := fun m ρ _ =>
  (θ_run Cert.ProjRefIdeal.defs _ _).mono (fun r h => ⟨fun c => (h c).2, sem_eq_zero_of_no_sems (by decide) r.2⟩)
    (Cert.ProjRefIdeal.Value.run (F := Ideal) m ρ)

theorem frame_mkv_ref : Cert.quiescent_MkvRefIdeal (hMkvRefIdeal := Cert.MkvRefIdeal.Gen.facts) := fun m ρ _ =>
  (θ_run Cert.MkvRefIdeal.defs _ _).mono (fun r h => ⟨fun c => (h c).2, sem_eq_zero_of_no_sems (by decide) r.2⟩)
    (Cert.MkvRefIdeal.Value.run (F := Ideal) m ρ)

theorem frame_tail_ref : Cert.quiescent_TailRefIdeal (hTailRefIdeal := Cert.TailRefIdeal.Gen.facts) := fun m ρ _ =>
  (θ_run Cert.TailRefIdeal.defs _ _).mono (fun r h => ⟨fun c => (h c).2, sem_eq_zero_of_no_sems (by decide) r.2⟩)
    (Cert.TailRefIdeal.Value.run (F := Ideal) m ρ)

/-- Every claim, in the statement's order. -/
theorem claim : Cert.Claim :=
  ⟨Cert.Dil.Gen.facts,
    Cert.DilIdeal.Gen.facts,
    Cert.Xattn.Gen.facts,
    Cert.XattnIdeal.Gen.facts,
    Cert.XattnRefIdeal.Gen.facts,
    Cert.Sgu.Gen.facts,
    Cert.SguIdeal.Gen.facts,
    Cert.SguRefIdeal.Gen.facts,
    Cert.Proj.Gen.facts,
    Cert.ProjIdeal.Gen.facts,
    Cert.ProjRefIdeal.Gen.facts,
    Cert.Mkv.Gen.facts,
    Cert.MkvIdeal.Gen.facts,
    Cert.MkvRefIdeal.Gen.facts,
    Cert.Tail.Gen.facts,
    Cert.TailIdeal.Gen.facts,
    Cert.TailRefIdeal.Gen.facts,
    Cert.XattnIdeal.Match.pre_facts,
    fun m ρ _ => Cert.Dil.Run.frame m ρ,
    fun m ρ _ => Cert.DilIdeal.Run.frame m ρ,
    fun m ρ _ => Cert.Xattn.Gen.frame m ρ,
    fun m ρ _ => Cert.XattnIdeal.Gen.frame m ρ,
    fun m ρ _ => Cert.XattnIdeal.Gen.frame m ρ,
    frame_xattn_ref,
    fun m ρ _ => frame_xattn_ref m ρ trivial,
    fun m ρ _ => Cert.Sgu.Gen.frame m ρ,
    fun m ρ _ => Cert.SguIdeal.Gen.frame m ρ,
    frame_sgu_ref,
    fun m ρ _ => Cert.Proj.Gen.frame m ρ,
    fun m ρ _ => Cert.ProjIdeal.Gen.frame m ρ,
    frame_proj_ref,
    fun m ρ _ => Cert.Mkv.Gen.frame m ρ,
    fun m ρ _ => Cert.MkvIdeal.Gen.frame m ρ,
    frame_mkv_ref,
    fun m ρ _ => Cert.Tail.Gen.frame m ρ,
    fun m ρ _ => Cert.TailIdeal.Gen.frame m ρ,
    frame_tail_ref,
    trivial,
    trivial,
    Cert.XattnIdeal.Match.algebraic,
    IdealRules.named_const.statement Cert.SguIdeal.κ "gelu_c2" .f32 0x3D122279#32 (((6693141 / 8388608) * (12003091 / 268435456) : ℝ) : EReal) rfl,
    Cert.SguIdeal.Match.algebraic,
    trivial,
    Cert.ProjIdeal.Match.algebraic,
    trivial,
    Cert.MkvIdeal.Match.algebraic,
    trivial,
    Cert.TailIdeal.Match.algebraic⟩

end Cert.Proof

end
